-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x8192 : Shape := ⟨2, ![4096, 8192]⟩
abbrev S512x8192 : Shape := ⟨2, ![512, 8192]⟩
abbrev S8x512x512 : Shape := ⟨3, ![8, 512, 512]⟩
abbrev S2x512x4096 : Shape := ⟨3, ![2, 512, 4096]⟩
abbrev S8x128 : Shape := ⟨2, ![8, 128]⟩
abbrev S7 : Shape := ⟨1, ![7]⟩
abbrev S8 : Shape := ⟨1, ![8]⟩
abbrev S2 : Shape := ⟨1, ![2]⟩
abbrev S_ : Shape := ⟨0, ![]⟩
abbrev S1 : Shape := ⟨1, ![1]⟩
abbrev S1x512x512 : Shape := ⟨3, ![1, 512, 512]⟩
abbrev S512x512 : Shape := ⟨2, ![512, 512]⟩
abbrev S1x512x4096 : Shape := ⟨3, ![1, 512, 4096]⟩
abbrev S512x4096 : Shape := ⟨2, ![512, 4096]⟩
abbrev S1x512x8192 : Shape := ⟨3, ![1, 512, 8192]⟩
abbrev S1x1x1 : Shape := ⟨3, ![1, 1, 1]⟩
abbrev S1x128 : Shape := ⟨2, ![1, 128]⟩
abbrev S1x8x128 : Shape := ⟨3, ![1, 8, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x8192, .f32⟩
  | .hbm, ⟨2, _⟩ => ⟨S512x8192, .f32⟩
  | .local _ .vmem, ⟨0, _⟩ => ⟨S4096x512, .bf16⟩
  | .local _ .vmem, ⟨1, _⟩ => ⟨S512x8192, .f32⟩
  | .local _ .vmem, ⟨2, _⟩ => ⟨S8x512x512, .bf16⟩
  | .local _ .vmem, ⟨3, _⟩ => ⟨S2x512x4096, .f32⟩
  | .local _ .vmem, ⟨4, _⟩ => ⟨S8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_34 : BitVec 32 := 0#32
  let c0_i32_35 : BitVec 32 := 0#32
  ![v2.toNat, 0, 0]
def k0_off3 (d0 : Dev nD) (c1_i32_29 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c1_i32_29
  let c8_i32_30 : BitVec 32 := 8#32
  let v33 : BitVec 32 := Scalar.remsi v32 c8_i32_30
  let c512_i32 : BitVec 32 := 512#32
  let v34 : BitVec 32 := Scalar.muli v33 c512_i32
  let c0_i32_36 : BitVec 32 := 0#32
  ![v34.toNat, 0]
def k0_dev8 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.addi v2 c1_i32_29
  let c8_i32_30 : BitVec 32 := 8#32
  let v33 : BitVec 32 := Scalar.remsi v32 c8_i32_30
  let c1_i32_32 : BitVec 32 := 1#32
  let v35 : BitVec 32 := Scalar.muli v33 c1_i32_32
  let v36 : BitVec 32 := Scalar.addi c0_i32_33 v35
  v36.toNat
def k0_dev9 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_37 : BitVec 32 := 2#32
  let v44 : BitVec 32 := Scalar.addi v2 c2_i32_37
  let c8_i32_38 : BitVec 32 := 8#32
  let v45 : BitVec 32 := Scalar.remsi v44 c8_i32_38
  let c1_i32_41 : BitVec 32 := 1#32
  let v47 : BitVec 32 := Scalar.muli v45 c1_i32_41
  let v48 : BitVec 32 := Scalar.addi c0_i32_42 v47
  v48.toNat
def k0_dev10 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_46 : BitVec 32 := 3#32
  let v56 : BitVec 32 := Scalar.addi v2 c3_i32_46
  let c8_i32_47 : BitVec 32 := 8#32
  let v57 : BitVec 32 := Scalar.remsi v56 c8_i32_47
  let c1_i32_50 : BitVec 32 := 1#32
  let v59 : BitVec 32 := Scalar.muli v57 c1_i32_50
  let v60 : BitVec 32 := Scalar.addi c0_i32_51 v59
  v60.toNat
def k0_dev11 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_55 : BitVec 32 := 4#32
  let v68 : BitVec 32 := Scalar.addi v2 c4_i32_55
  let c8_i32_56 : BitVec 32 := 8#32
  let v69 : BitVec 32 := Scalar.remsi v68 c8_i32_56
  let c1_i32_59 : BitVec 32 := 1#32
  let v71 : BitVec 32 := Scalar.muli v69 c1_i32_59
  let v72 : BitVec 32 := Scalar.addi c0_i32_60 v71
  v72.toNat
def k0_dev12 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_64 : BitVec 32 := 5#32
  let v80 : BitVec 32 := Scalar.addi v2 c5_i32_64
  let c8_i32_65 : BitVec 32 := 8#32
  let v81 : BitVec 32 := Scalar.remsi v80 c8_i32_65
  let c1_i32_68 : BitVec 32 := 1#32
  let v83 : BitVec 32 := Scalar.muli v81 c1_i32_68
  let v84 : BitVec 32 := Scalar.addi c0_i32_69 v83
  v84.toNat
def k0_dev13 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_73 : BitVec 32 := 6#32
  let v92 : BitVec 32 := Scalar.addi v2 c6_i32_73
  let c8_i32_74 : BitVec 32 := 8#32
  let v93 : BitVec 32 := Scalar.remsi v92 c8_i32_74
  let c1_i32_77 : BitVec 32 := 1#32
  let v95 : BitVec 32 := Scalar.muli v93 c1_i32_77
  let v96 : BitVec 32 := Scalar.addi c0_i32_78 v95
  v96.toNat
def k0_dev14 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_82 : BitVec 32 := 7#32
  let v104 : BitVec 32 := Scalar.addi v2 c7_i32_82
  let c8_i32_83 : BitVec 32 := 8#32
  let v105 : BitVec 32 := Scalar.remsi v104 c8_i32_83
  let c1_i32_86 : BitVec 32 := 1#32
  let v107 : BitVec 32 := Scalar.muli v105 c1_i32_86
  let v108 : BitVec 32 := Scalar.addi c0_i32_87 v107
  v108.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_91 : BitVec 32 := 512#32
  let v116 : BitVec 32 := Scalar.muli v2 c512_i32_91
  let v117 : Index := Scalar.indexCast v116
  let c0 : Index := 0#32
  ![v117.toNat, 0]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v120 : Index := Scalar.indexCast v2
  let c0_92 : Index := 0#32
  let c0_93 : Index := 0#32
  ![v120.toNat, 0, 0]
def k0_off6 (d0 : Dev nD) (c0_i32_94 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v124 : BitVec 32 := Scalar.subi v2 c0_i32_94
  let c8_i32_95 : BitVec 32 := 8#32
  let v125 : BitVec 32 := Scalar.addi v124 c8_i32_95
  let c8_i32_96 : BitVec 32 := 8#32
  let v126 : BitVec 32 := Scalar.remsi v125 c8_i32_96
  let c512_i32_97 : BitVec 32 := 512#32
  let v127 : BitVec 32 := Scalar.muli v126 c512_i32_97
  let c0_i32_102 : BitVec 32 := 0#32
  ![v127.toNat, 0]
def k0_off7 (d0 : Dev nD) (c0_i32_103 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v133 : BitVec 32 := Scalar.subi v2 c0_i32_103
  let c8_i32_104 : BitVec 32 := 8#32
  let v134 : BitVec 32 := Scalar.addi v133 c8_i32_104
  let c8_i32_105 : BitVec 32 := 8#32
  let v135 : BitVec 32 := Scalar.remsi v134 c8_i32_105
  let c512_i32_106 : BitVec 32 := 512#32
  let v136 : BitVec 32 := Scalar.muli v135 c512_i32_106
  let c4096_i32 : BitVec 32 := 4096#32
  ![v136.toNat, 4096]
def k0_off8 (d0 : Dev nD) (c0_i32_119 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v150 : BitVec 32 := Scalar.subi v2 c0_i32_119
  let c8_i32_120 : BitVec 32 := 8#32
  let v151 : BitVec 32 := Scalar.addi v150 c8_i32_120
  let c8_i32_121 : BitVec 32 := 8#32
  let v152 : BitVec 32 := Scalar.remsi v151 c8_i32_121
  let v153 : Index := Scalar.indexCast v152
  let c0_122 : Index := 0#32
  let c0_123 : Index := 0#32
  ![v153.toNat, 0, 0]
def k0_off9 (d0 : Dev nD) (c1_i32_158 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v192 : BitVec 32 := Scalar.subi v2 c1_i32_158
  let c8_i32_159 : BitVec 32 := 8#32
  let v193 : BitVec 32 := Scalar.addi v192 c8_i32_159
  let c8_i32_160 : BitVec 32 := 8#32
  let v194 : BitVec 32 := Scalar.remsi v193 c8_i32_160
  ![v194.toNat]
def k0_off10 (d0 : Dev nD) (c1_i32_158 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v192 : BitVec 32 := Scalar.subi v2 c1_i32_158
  let c8_i32_159 : BitVec 32 := 8#32
  let v193 : BitVec 32 := Scalar.addi v192 c8_i32_159
  let c8_i32_160 : BitVec 32 := 8#32
  let v194 : BitVec 32 := Scalar.remsi v193 c8_i32_160
  let c0_i32_164 : BitVec 32 := 0#32
  let c0_i32_165 : BitVec 32 := 0#32
  ![v194.toNat, 0, 0]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v648 : Index := Scalar.indexCast v2
  let c0_596 : Index := 0#32
  ![v648.toNat, 0]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_602 : BitVec 32 := 0#32
  ![v2.toNat, 0]
def k0_dev15 (d0 : Dev nD) : Nat :=
  let c0_i32_601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_597 : BitVec 32 := 1#32
  let v652 : BitVec 32 := Scalar.addi v2 c1_i32_597
  let c8_i32_598 : BitVec 32 := 8#32
  let v653 : BitVec 32 := Scalar.remsi v652 c8_i32_598
  let c1_i32_600 : BitVec 32 := 1#32
  let v654 : BitVec 32 := Scalar.muli v653 c1_i32_600
  let v655 : BitVec 32 := Scalar.addi c0_i32_601 v654
  v655.toNat
def k0_dev16 (d0 : Dev nD) : Nat :=
  let c0_i32_608 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_604 : BitVec 32 := 2#32
  let v662 : BitVec 32 := Scalar.addi v2 c2_i32_604
  let c8_i32_605 : BitVec 32 := 8#32
  let v663 : BitVec 32 := Scalar.remsi v662 c8_i32_605
  let c1_i32_607 : BitVec 32 := 1#32
  let v664 : BitVec 32 := Scalar.muli v663 c1_i32_607
  let v665 : BitVec 32 := Scalar.addi c0_i32_608 v664
  v665.toNat
def k0_dev17 (d0 : Dev nD) : Nat :=
  let c0_i32_615 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_611 : BitVec 32 := 3#32
  let v672 : BitVec 32 := Scalar.addi v2 c3_i32_611
  let c8_i32_612 : BitVec 32 := 8#32
  let v673 : BitVec 32 := Scalar.remsi v672 c8_i32_612
  let c1_i32_614 : BitVec 32 := 1#32
  let v674 : BitVec 32 := Scalar.muli v673 c1_i32_614
  let v675 : BitVec 32 := Scalar.addi c0_i32_615 v674
  v675.toNat
def k0_dev18 (d0 : Dev nD) : Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_618 : BitVec 32 := 4#32
  let v682 : BitVec 32 := Scalar.addi v2 c4_i32_618
  let c8_i32_619 : BitVec 32 := 8#32
  let v683 : BitVec 32 := Scalar.remsi v682 c8_i32_619
  let c1_i32_621 : BitVec 32 := 1#32
  let v684 : BitVec 32 := Scalar.muli v683 c1_i32_621
  let v685 : BitVec 32 := Scalar.addi c0_i32_622 v684
  v685.toNat
def k0_dev19 (d0 : Dev nD) : Nat :=
  let c0_i32_629 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_625 : BitVec 32 := 5#32
  let v692 : BitVec 32 := Scalar.addi v2 c5_i32_625
  let c8_i32_626 : BitVec 32 := 8#32
  let v693 : BitVec 32 := Scalar.remsi v692 c8_i32_626
  let c1_i32_628 : BitVec 32 := 1#32
  let v694 : BitVec 32 := Scalar.muli v693 c1_i32_628
  let v695 : BitVec 32 := Scalar.addi c0_i32_629 v694
  v695.toNat
def k0_dev20 (d0 : Dev nD) : Nat :=
  let c0_i32_636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_632 : BitVec 32 := 6#32
  let v702 : BitVec 32 := Scalar.addi v2 c6_i32_632
  let c8_i32_633 : BitVec 32 := 8#32
  let v703 : BitVec 32 := Scalar.remsi v702 c8_i32_633
  let c1_i32_635 : BitVec 32 := 1#32
  let v704 : BitVec 32 := Scalar.muli v703 c1_i32_635
  let v705 : BitVec 32 := Scalar.addi c0_i32_636 v704
  v705.toNat
def k0_dev21 (d0 : Dev nD) : Nat :=
  let c0_i32_643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_639 : BitVec 32 := 7#32
  let v712 : BitVec 32 := Scalar.addi v2 c7_i32_639
  let c8_i32_640 : BitVec 32 := 8#32
  let v713 : BitVec 32 := Scalar.remsi v712 c8_i32_640
  let c1_i32_642 : BitVec 32 := 1#32
  let v714 : BitVec 32 := Scalar.muli v713 c1_i32_642
  let v715 : BitVec 32 := Scalar.addi c0_i32_643 v714
  v715.toNat
def k0_off13 (d0 : Dev nD) (c1_i32_646 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v722 : BitVec 32 := Scalar.subi v2 c1_i32_646
  let c8_i32_647 : BitVec 32 := 8#32
  let v723 : BitVec 32 := Scalar.addi v722 c8_i32_647
  let c8_i32_648 : BitVec 32 := 8#32
  let v724 : BitVec 32 := Scalar.remsi v723 c8_i32_648
  let c0_i32_652 : BitVec 32 := 0#32
  ![v724.toNat, 0]
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 8
  | .vmem => 2
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x4096, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .local _ .vmem, ⟨0, _⟩ => ⟨S4096x8192, .f32⟩
  | .local _ .vmem, ⟨1, _⟩ => ⟨S4096x8192, .f32⟩
  | _, _ => ⟨S4096x4096, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Base.lean ====
/-
The protocol of the all-to-all matmul: the devices as a ring of eight, the memrefs and the semaphore cells,
what the buffers hold, the schedule of the cells' one round, and what each device owes at launch.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Memref
public import Idealize.ShloMosaic.Lib.MemrefSat
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, the cells' (a duty is named by a device), the transfers' -/

abbrev UB : Type := URounds (GSem nD τ sig) (Fin 8)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The cells' copy: the left half of the right factor. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
omit [FloatOps F] in
instance ER_landsIn : (ER : Emb UB 𝕄).LandsIn (upEmb : UEmb _ 𝕄) := by unfold ER; infer_instance
/-- The transfers' copy. -/
abbrev EC : UEmb Counters (MT nD τ sig Unit (Elt F) ℕ UU ℕ) := countersEmb

/-! ## The eight devices in a ring -/

set_option backward.proofsInPublic true in
/-- The device `o` places after `c`, -/
def pe (c : Dev nD) (o : ℕ) : Dev nD := ⟨(c.val + o) % 8, Nat.mod_lt _ (by decide)⟩
set_option backward.proofsInPublic true in
/-- and `o` places before it. -/
def og (c : Dev nD) (o : ℕ) : Dev nD := ⟨(c.val + (8 - o)) % 8, Nat.mod_lt _ (by decide)⟩

theorem og_zero (c : Dev nD) : og c 0 = c := by revert c; decide

/-! ## The memrefs -/

abbrev xM : Memref sig .tc .vmem S4096x512 .bf16 := Memref.whole cc0_stg0_0
abbrev oM : Memref sig .tc .vmem S512x8192 .f32 := Memref.whole cc0_stg1_0
abbrev wM : Memref sig .tc .hbm S4096x8192 .f32 := Memref.whole main_arg1
abbrev rM : Memref sig .tc .vmem S8x512x512 .bf16 := Memref.whole cc0_scratch0
abbrev bM : Memref sig .tc .vmem S2x512x4096 .f32 := Memref.whole cc0_scratch1
abbrev aM : Memref sig .tc .vmem S8x128 .f32 := Memref.whole cc0_scratch2

theorem xrect_inb (r : Fin 8) : ∀ a, (![r.val * 512, 0] : Fin 2 → Nat) a + S512x512.size a ≤ S4096x512.size a := by revert r; decide
theorem srect_inb (s : Fin 8) : ∀ a, (![s.val, 0, 0] : Fin 3 → Nat) a + S1x512x512.size a ≤ S8x512x512.size a := by revert s; decide
theorem arect_inb (s : Fin 8) : ∀ a, (![s.val, 0] : Fin 2 → Nat) a + S1x128.size a ≤ S8x128.size a := by revert s; decide
theorem brect_inb (h : Fin 2) : ∀ a, (![h.val, 0, 0] : Fin 3 → Nat) a + S1x512x4096.size a ≤ S2x512x4096.size a := by revert h; decide
theorem wrect_inb (r : Fin 8) (h : Fin 2) : ∀ a, (![r.val * 512, h.val * 4096] : Fin 2 → Nat) a + S512x4096.size a ≤ S4096x8192.size a := by
  revert r h; decide
theorem orect_inb (h : Fin 2) : ∀ a, (![0, h.val * 4096] : Fin 2 → Nat) a + S512x4096.size a ≤ S512x8192.size a := by revert h; decide

/-- Row block `r` of a device's `x`. -/
abbrev xR (r : Fin 8) : Rect S4096x512 := Rect.unit (s := S4096x512) ![r.val * 512, 0] S512x512.size (xrect_inb r)
/-- Slot `s` of the landing buffer, -/
abbrev sR (s : Fin 8) : Rect S8x512x512 := Rect.unit (s := S8x512x512) ![s.val, 0, 0] S1x512x512.size (srect_inb s)
/-- row `s` of the maxima, -/
abbrev aR (s : Fin 8) : Rect S8x128 := Rect.unit (s := S8x128) ![s.val, 0] S1x128.size (arect_inb s)
/-- slot `h` of the weights' double buffer, -/
abbrev bR (h : Fin 2) : Rect S2x512x4096 := Rect.unit (s := S2x512x4096) ![h.val, 0, 0] S1x512x4096.size (brect_inb h)
/-- block `(r, h)` of the weights, -/
abbrev wR (r : Fin 8) (h : Fin 2) : Rect S4096x8192 := Rect.unit (s := S4096x8192) ![r.val * 512, h.val * 4096] S512x4096.size (wrect_inb r h)
/-- half `h` of the result block. -/
abbrev oR (h : Fin 2) : Rect S512x8192 := Rect.unit (s := S512x8192) ![0, h.val * 4096] S512x4096.size (orect_inb h)

abbrev xrow (r : Fin 8) : Memref sig .tc .vmem S512x512 .bf16 := xM.slice (xR r) (fun _ => rfl)
abbrev slot (s : Fin 8) : Memref sig .tc .vmem S512x512 .bf16 := (rM.slice (sR s) (fun _ => rfl)).squeeze S512x512 squeezes_S1x512x512_S512x512
abbrev arow (s : Fin 8) : Memref sig .tc .vmem S1x128 .f32 := aM.slice (aR s) (fun _ => rfl)
abbrev wslot (h : Fin 2) : Memref sig .tc .vmem S512x4096 .f32 := (bM.slice (bR h) (fun _ => rfl)).squeeze S512x4096 squeezes_S1x512x4096_S512x4096
abbrev wblk (r : Fin 8) (h : Fin 2) : Memref sig .tc .hbm S512x4096 .f32 := wM.slice (wR r h) (fun _ => rfl)

/-! ## The cells -/

/-- The runtime's barrier semaphore. -/
abbrev barS : Sem sig := (SemArray.scalar (sig.barrier 0 rfl) : Sems sig S_).sem
set_option backward.proofsInPublic true in
/-- The `n`-th of the thirty-two DMA semaphores the kernel is handed. -/
def dsem (n : Fin 32) : DmaSem sig := (⟨n.val + 2, by have := n.isLt; omega⟩ : Fin 34)

abbrev barCell (c : Dev nD) : GSem nD τ sig := ((c : Thread nD τ), .reg barS)
abbrev dcell (c : Dev nD) (q : DmaSem sig) : GSem nD τ sig := ((c : Thread nD τ), .dma q)

set_option backward.proofsInPublic true in
/-- The semaphore of the `k`-th block sent (from zero), -/
def sSem (k : Fin 7) : DmaSem sig := (⟨2 + k.val, by have := k.isLt; omega⟩ : Fin 34)
set_option backward.proofsInPublic true in
/-- of the block received from device `s`, -/
def rSem (s : Fin 8) : DmaSem sig := (⟨9 + s.val, by have := s.isLt; omega⟩ : Fin 34)
set_option backward.proofsInPublic true in
/-- of the `k`-th maximum sent, -/
def tSem (k : Fin 7) : DmaSem sig := (⟨17 + k.val, by have := k.isLt; omega⟩ : Fin 34)
set_option backward.proofsInPublic true in
/-- of the maximum received from device `s`, -/
def zSem (s : Fin 8) : DmaSem sig := (⟨24 + s.val, by have := s.isLt; omega⟩ : Fin 34)
set_option backward.proofsInPublic true in
/-- and of the weights' copy into slot `h`. -/
def wSem (h : Fin 2) : DmaSem sig := (⟨32 + h.val, by have := h.isLt; omega⟩ : Fin 34)

/-- The credit of a block's transfer, of a maximum's, of a weights copy's. -/
abbrev Nx : ℕ := (slot 0).view.dmaCredit
abbrev Na : ℕ := (arow 0).view.dmaCredit
abbrev Nw : ℕ := (wslot 0).view.dmaCredit
theorem Nx_pos : 0 < Nx := View.dmaCredit_pos _ (by decide)
theorem Na_pos : 0 < Na := View.dmaCredit_pos _ (by decide)
theorem Nw_pos : 0 < Nw := View.dmaCredit_pos _ (by decide)

/-! ## Contents -/

section Contents

variable (m : (ℓ : Loc nD τ sig) → Buf (Elt F) ℓ)

/-- A device's staged `x`, -/
def xstg (c : Dev nD) : (cc0_stg0_0 : Ref sig .tc).ty.Contents (Elt F) :=
  (win0_0.blk (0 : Fin 1)).view.read (Elt F) (m ((c : Thread nD τ).loc main_arg0))
/-- its weights, -/
def wall (c : Dev nD) : Vec F S4096x8192 .f32 := m ((c : Thread nD τ).loc main_arg1)
/-- row block `r` of device `s`'s `x`, -/
def xb (s : Dev nD) (r : Fin 8) : Vec F S512x512 .bf16 := fun j => xstg m s ((xR r).emb j)
/-- block `(r, h)` of a device's weights. -/
def wb (c : Dev nD) (r : Fin 8) (h : Fin 2) : Vec F S512x4096 .f32 := fun j => wall m c ((wR r h).emb j)

/-- One block product: the weights rounded to bf16, the product accumulated in f32 from zero. -/
def mm (X : Vec F S512x512 .bf16) (Wv : Vec F S512x4096 .f32) : Vec F S512x4096 .f32 :=
  matmul dot_S512x512_S512x4096_S512x4096_1_0_0_1_n_n none X (truncf .bf16 Wv bitsLt_bf16_f32) (constant S512x4096 .f32 0x00000000#32)

/-- Half `h` of device `c`'s block after its first `n + 1` products, in the order the blocks are taken. -/
def acc (c : Dev nD) (h : Fin 2) : ℕ → Vec F S512x4096 .f32
  | 0 => mm (xb m c c) (wb m c (og c 0) h)
  | n + 1 => addf (acc c h n) (mm (xb m (og c (n + 1)) c) (wb m c (og c (n + 1)) h))

set_option backward.proofsInPublic true in
/-- Two halves side by side. -/
def joinH {α : Type} (A B : S512x4096.Idx → α) : S512x8192.Idx → α := fun i =>
  if h : (i 1).val < 4096 then A (fun | 0 => i 0 | 1 => ⟨(i 1).val, h⟩ | ⟨_ + 2, h⟩ => absurd h (Nat.not_lt.2 (Nat.le_add_left _ _)))
  else B (fun | 0 => i 0 | 1 => ⟨(i 1).val - 4096, by have : (i 1).val < 8192 := (i 1).isLt; show (i 1).val - 4096 < 4096; omega⟩ | ⟨_ + 2, h⟩ => absurd h (Nat.not_lt.2 (Nat.le_add_left _ _)))

/-- Device `c`'s block of the product, rectified; -/
abbrev ry (c : Dev nD) : Vec F S512x8192 .f32 := k0_pay25 (joinH (acc m c 0 7) (acc m c 1 7))
/-- the row its largest entry is sent as; -/
abbrev am (c : Dev nD) : Vec F S1x128 .f32 := k0_pay26 (ry m c)
set_option backward.proofsInPublic true in
/-- all eight rows; -/
def amall : Vec F S8x128 .f32 := fun i =>
  am m ((i 0 : Fin 8)) (fun | 0 => (0 : Fin 1) | 1 => i 1 | ⟨_ + 2, h⟩ => absurd h (Nat.not_lt.2 (Nat.le_add_left _ _)))
/-- its block of the result. -/
def outAt (c : Dev nD) : (cc0_stg1_0 : Ref sig .tc).ty.Contents (Elt F) :=
  joinH (k0_pay28 (amall m) (fun j => ry m c ((oR 0).emb j)))
    (k0_pay31 (k0_pay27 (amall m)) (k0_pay29 (fun j => ry m c ((oR 1).emb j))) (k0_pay30 (amall m)))

end Contents

/-! ## The schedule -/

/-- The share of its own row of the maxima a device has left after lending it `n` times. -/
def rsh : ℕ → PosShare TreeShare
  | 0 => fullShare
  | n + 1 => (rsh n).right

section Sched

variable (m : (ℓ : Loc nD τ sig) → Buf (Elt F) ℓ)

/-- What device `d`'s signal hands device `c`: its landing slot and its row of the maxima that `c` will write. -/
def barPay (c d : Dev nD) : sProp 𝕄 :=
  iprop((∃ X, owns (d : Thread nD τ) (slot c) fullShare X) ∗ (∃ X, owns (d : Thread nD τ) (arow c) fullShare X))
def sendPay (c : Dev nD) (k : ℕ) : sProp 𝕄 := owns (c : Thread nD τ) (xrow (pe c (k + 1))) fullShare (xb m c (pe c (k + 1)))
def recvPay (c : Dev nD) (s : Dev nD) : sProp 𝕄 := owns (c : Thread nD τ) (slot s) fullShare (xb m s c)
def asendPay (c : Dev nD) (k : ℕ) : sProp 𝕄 := owns (c : Thread nD τ) (arow c) (rsh k).left (am m c)
def arecvPay (c : Dev nD) (s : Dev nD) : sProp 𝕄 := owns (c : Thread nD τ) (arow s) fullShare (am m s)

/-- The payload of DMA cell `n` of device `c`. -/
def dmaPay (c : Dev nD) (n : ℕ) : sProp 𝕄 :=
  if n < 9 then sendPay m c (n - 2) else if n < 17 then recvPay m c (pe 0 (n - 9))
  else if n < 24 then asendPay m c (n - 17) else arecvPay m c (pe 0 (n - 24))

/-- The duties of DMA cell `n` of device `c`: one, but for a device's landing cells of its own block. -/
def dmaDuties (c : Dev nD) (n : ℕ) : Finset (Fin 8) :=
  if n = 9 + c.val ∨ n = 24 + c.val then ∅ else {0}

/-- One round, round 0: a barrier cell has a duty of one unit for each other device; a DMA cell one duty, the
    block's credit. -/
def Rd : Rounds.Schedule (GSem nD τ sig) (Fin 8) 𝕄 where
  duties g r := if r = 0 then (match g.2 with | .reg _ => Finset.univ.erase g.1.1 | .dma q => dmaDuties g.1.1 q.val) else ∅
  unitless _ := False
  amount g _ _ := match g.2 with | .reg _ => 1 | .dma q => if q.val < 17 then Nx else Na
  payload g _ d := match g.2 with | .reg _ => barPay g.1.1 d | .dma q => dmaPay m g.1.1 q.val
  amount_pos g _ _ _ := by
    rcases g with ⟨t, _ | q⟩
    · exact Nat.one_pos
    · show 0 < if q.val < 17 then Nx else Na
      split; exacts [Nx_pos, Na_pos]

omit [FloatOps F] in
instance barPay_storable (c d : Dev nD) : BI.Storable (upEmb : UEmb _ 𝕄) (barPay (F := F) c d) := by unfold barPay; infer_instance

instance dmaPay_storable (c : Dev nD) (n : ℕ) : BI.Storable (upEmb : UEmb _ 𝕄) (dmaPay m c n) := by
  unfold dmaPay sendPay recvPay asendPay arecvPay
  (repeat' split) <;> infer_instance

instance Rd_payload_storable (g : GSem nD τ sig) (r : ℕ) (d : Fin 8) : BI.Storable (upEmb : UEmb _ 𝕄) ((Rd (F := F) m).payload g r d) := by
  rcases g with ⟨t, _ | q⟩
  · show BI.Storable _ (barPay _ _); infer_instance
  · show BI.Storable _ (dmaPay _ _ _); infer_instance

theorem duties_later (g : GSem nD τ sig) : ∀ r, 1 ≤ r → (Rd (F := F) m).duties g r = ∅ :=
  fun r hr => by dsimp only [Rd]; exact if_neg (by omega)

theorem duties_bar (c : Dev nD) : (Rd (F := F) m).duties (barCell c) 0 = Finset.univ.erase c := rfl
theorem duties_dma (c : Dev nD) (q : DmaSem sig) : (Rd (F := F) m).duties (dcell c q) 0 = dmaDuties c q.val := rfl
theorem payload_bar (c d : Dev nD) : (Rd (F := F) m).payload (barCell c) 0 d = barPay c d := rfl
theorem payload_dma (c : Dev nD) (q : DmaSem sig) (d : Fin 8) : (Rd (F := F) m).payload (dcell c q) 0 d = dmaPay m c q.val := rfl
theorem amount_bar (c d : Dev nD) : (Rd (F := F) m).amount (barCell c) 0 d = 1 := rfl

theorem dut_s (c : Dev nD) (k : Fin 7) : (Rd (F := F) m).duties (dcell c (sSem k)) 0 = {0} := by
  rw [duties_dma]; exact if_neg (by simp only [sSem]; omega)
theorem dut_r (c s : Dev nD) (h : s ≠ c) : (Rd (F := F) m).duties (dcell c (rSem s)) 0 = {0} := by
  rw [duties_dma]; exact if_neg (by simp only [rSem]; have : s.val ≠ c.val := fun h' => h (Fin.ext h'); have := s.isLt; have : nD = 8 := rfl; omega)
theorem dut_t (c : Dev nD) (k : Fin 7) : (Rd (F := F) m).duties (dcell c (tSem k)) 0 = {0} := by
  rw [duties_dma]; exact if_neg (by simp only [tSem]; have := c.isLt; have : nD = 8 := rfl; omega)
theorem dut_z (c s : Dev nD) (h : s ≠ c) : (Rd (F := F) m).duties (dcell c (zSem s)) 0 = {0} := by
  rw [duties_dma]; exact if_neg (by simp only [zSem]; have : s.val ≠ c.val := fun h' => h (Fin.ext h'); have := c.isLt; have : nD = 8 := rfl; omega)
theorem dut_r_own (c : Dev nD) (r : ℕ) : (Rd (F := F) m).duties (dcell c (rSem c)) r = ∅ := by
  rcases r with _ | r
  · rw [duties_dma]; exact if_pos (.inl rfl)
  · exact duties_later m _ _ (Nat.le_add_left _ _)
theorem dut_z_own (c : Dev nD) (r : ℕ) : (Rd (F := F) m).duties (dcell c (zSem c)) r = ∅ := by
  rcases r with _ | r
  · rw [duties_dma]; exact if_pos (.inr rfl)
  · exact duties_later m _ _ (Nat.le_add_left _ _)

theorem amt_s (c : Dev nD) (k : Fin 7) (d : Fin 8) : (Rd (F := F) m).amount (dcell c (sSem k)) 0 d = Nx := if_pos (by simp only [sSem]; omega)
theorem amt_r (c s : Dev nD) (d : Fin 8) : (Rd (F := F) m).amount (dcell c (rSem s)) 0 d = Nx := if_pos (by simp only [rSem]; omega)
theorem amt_t (c : Dev nD) (k : Fin 7) (d : Fin 8) : (Rd (F := F) m).amount (dcell c (tSem k)) 0 d = Na := if_neg (by simp only [tSem]; omega)
theorem amt_z (c s : Dev nD) (d : Fin 8) : (Rd (F := F) m).amount (dcell c (zSem s)) 0 d = Na := if_neg (by simp only [zSem]; omega)

theorem pe_zero_val (s : Dev nD) : pe 0 s.val = s := by revert s; decide

theorem pay_s (c : Dev nD) (k : Fin 7) (d : Fin 8) : (Rd (F := F) m).payload (dcell c (sSem k)) 0 d = sendPay m c k.val := by
  rw [payload_dma]; unfold dmaPay; rw [if_pos (by simp only [sSem]; omega)]
  exact congrArg _ (by simp only [sSem]; omega)
theorem pay_r (c s : Dev nD) (d : Fin 8) : (Rd (F := F) m).payload (dcell c (rSem s)) 0 d = recvPay m c s := by
  rw [payload_dma]; unfold dmaPay; rw [if_neg (by simp only [rSem]; omega), if_pos (by simp only [rSem]; omega)]
  rw [show (rSem s).val - 9 = s.val by simp only [rSem]; omega, pe_zero_val]
theorem pay_t (c : Dev nD) (k : Fin 7) (d : Fin 8) : (Rd (F := F) m).payload (dcell c (tSem k)) 0 d = asendPay m c k.val := by
  rw [payload_dma]; unfold dmaPay
  rw [if_neg (by simp only [tSem]; omega), if_neg (by simp only [tSem]; omega), if_pos (by simp only [tSem]; omega)]
  exact congrArg _ (by simp only [tSem]; omega)
theorem pay_z (c s : Dev nD) (d : Fin 8) : (Rd (F := F) m).payload (dcell c (zSem s)) 0 d = arecvPay m c s := by
  rw [payload_dma]; unfold dmaPay
  rw [if_neg (by simp only [zSem]; omega), if_neg (by simp only [zSem]; omega), if_neg (by simp only [zSem]; omega)]
  rw [show (zSem s).val - 24 = s.val by simp only [zSem]; omega, pe_zero_val]

theorem expect_one {g : GSem nD τ sig} {N : ℕ} (hd : (Rd (F := F) m).duties g 0 = {0}) (ha : (Rd (F := F) m).amount g 0 0 = N) :
    (Rd (F := F) m).expect g 0 = N := by
  unfold Schedule.expect Schedule.amountOf; rw [hd, Finset.sum_singleton, ha]

theorem expect_bar (c : Dev nD) : (Rd (F := F) m).expect (barCell c) 0 = 7 := by
  unfold Schedule.expect Schedule.amountOf
  rw [duties_bar, Finset.sum_congr rfl fun d _ => amount_bar m c d, Finset.sum_const, Finset.card_erase_of_mem (Finset.mem_univ _)]
  rfl

theorem rest_one {g : GSem nD τ sig} {P : sProp 𝕄} (hd : (Rd (F := F) m).duties g 0 = {0}) (hp : (Rd (F := F) m).payload g 0 0 = P) :
    bigSep ((Rd (F := F) m).duties g 0 \ ∅) (fun d => (Rd (F := F) m).payload g 0 d) = P := by
  rw [Finset.sdiff_empty, hd, bigSep_singleton, hp]

omit [FloatOps F] in
/-- A conjunction over the other devices, by their distance ahead. -/
theorem bigSep_others (c : Dev nD) (Φ : Fin 8 → sProp 𝕄) :
    bigSep (Finset.univ.erase c) Φ
      = iprop(Φ (pe c 1) ∗ Φ (pe c 2) ∗ Φ (pe c 3) ∗ Φ (pe c 4) ∗ Φ (pe c 5) ∗ Φ (pe c 6) ∗ Φ (pe c 7)) := by
  rw [bigSep_eq_bigSepL_of_eq [pe c 1, pe c 2, pe c 3, pe c 4, pe c 5, pe c 6, pe c 7] (by revert c; decide) (by revert c; decide)]
  rfl
omit [FloatOps F] in
/-- A conjunction over all of them, the device itself first. -/
theorem bigSep_all (c : Dev nD) (Φ : Fin 8 → sProp 𝕄) :
    bigSep Finset.univ Φ
      = iprop(Φ c ∗ Φ (pe c 1) ∗ Φ (pe c 2) ∗ Φ (pe c 3) ∗ Φ (pe c 4) ∗ Φ (pe c 5) ∗ Φ (pe c 6) ∗ Φ (pe c 7)) := by
  rw [bigSep_eq_bigSepL_of_eq [c, pe c 1, pe c 2, pe c 3, pe c 4, pe c 5, pe c 6, pe c 7] (by revert c; decide) (by revert c; decide)]
  rfl

end Sched

/-! ## What each device owes at launch; the levels -/

/-- What a list of cells and amounts owes, the first entry outermost. -/
def owedL : List (GSem nD τ sig × ℕ) → CellTallies nD τ sig Unit
  | [] => 0
  | x :: l => owedL l + tallyAt x.1 () x.2

/-- Everything a device owes, in the order it pays: a unit to each other device's barrier, a block to each, a
    maximum to each. -/
def oall (c : Dev nD) : List (GSem nD τ sig × ℕ) :=
  [(barCell (pe c 1), 1), (barCell (pe c 2), 1), (barCell (pe c 3), 1), (barCell (pe c 4), 1), (barCell (pe c 5), 1), (barCell (pe c 6), 1), (barCell (pe c 7), 1),
   (dcell (pe c 1) (rSem c), Nx), (dcell (pe c 2) (rSem c), Nx), (dcell (pe c 3) (rSem c), Nx), (dcell (pe c 4) (rSem c), Nx), (dcell (pe c 5) (rSem c), Nx), (dcell (pe c 6) (rSem c), Nx), (dcell (pe c 7) (rSem c), Nx),
   (dcell (pe c 1) (zSem c), Na), (dcell (pe c 2) (zSem c), Na), (dcell (pe c 3) (zSem c), Na), (dcell (pe c 4) (zSem c), Na), (dcell (pe c 5) (zSem c), Na), (dcell (pe c 6) (zSem c), Na), (dcell (pe c 7) (zSem c), Na)]

/-- What is left of it after the first `n` payments. -/
def obl (c : Dev nD) (n : ℕ) : List (GSem nD τ sig × ℕ) := (oall c).drop n

def L (g : GSem nD τ sig) : Finset Unit := if g.1.2 = .tc then {()} else ∅
/-- Barrier cells at 1, landing cells at 2, the maxima's landing cells at 3, everything else at 0. -/
def lv (g : GSem nD τ sig) (_ : Unit) : ℕ :=
  match g.2 with
  | .reg s => 1
  | .dma q => if q.val < 9 then 0 else if q.val < 17 then 2 else if q.val < 24 then 0 else if q.val < 32 then 3 else 0

theorem L_of_ne (g : GSem nD τ sig) (h : g.1.2 ≠ .tc) : L g = ∅ := if_neg h
theorem L_tc (c : Dev nD) (sm : SemLoc sig) : L ((c : Thread nD τ), sm) = {()} := if_pos rfl

theorem owedL_pos {l : List (GSem nD τ sig × ℕ)} {g : GSem nD τ sig} {u : Unit} (h : 0 < owedL l g u) : ∃ x ∈ l, g = x.1 := by
  induction l with
  | nil => exact absurd h (Nat.lt_irrefl 0)
  | cons x l ih =>
    unfold owedL at h
    rw [Pi.add_apply, Finsupp.add_apply, tallyAt_apply] at h
    by_cases hg : g = x.1
    · exact ⟨x, List.mem_cons_self, hg⟩
    · rw [if_neg (fun h' => hg h'.1), Nat.add_zero] at h
      obtain ⟨y, hy, e⟩ := ih h
      exact ⟨y, List.mem_cons_of_mem _ hy, e⟩

/-- A wait at or below every level owed is admissible. -/
theorem mayWait_obl {l : List (GSem nD τ sig × ℕ)} (n : ℕ) (c : Dev nD) (sm : SemLoc sig)
    (hl : ∀ x ∈ l, x.1.1.2 = .tc ∧ n < lv x.1 ()) (hn : lv ((c : Thread nD τ), sm) () ≤ n) :
    (levAts L lv : sProp 𝕄) ⊢ MayWait (c : Thread nD τ) sm () (owedL l) :=
  MayOwe.of_cut (L := L) (lev := lv) n (fun p hp => by rw [Finset.mem_singleton.mp hp, L_tc]; exact Finset.mem_singleton_self _)
    (fun g u hg => by obtain ⟨x, hx, rfl⟩ := owedL_pos hg; unfold L; rw [if_pos (hl x hx).1]; exact Finset.mem_singleton_self _)
    (fun p hp => by rw [Finset.mem_singleton.mp hp]; exact hn)
    (fun g u hg => by obtain ⟨x, hx, rfl⟩ := owedL_pos hg; exact (hl x hx).2)

theorem lv_bar (c : Dev nD) : lv (barCell c) () = 1 := rfl
theorem lv_r (c s : Dev nD) : lv (dcell c (rSem s)) () = 2 := by
  show (if (rSem s).val < 9 then 0 else if (rSem s).val < 17 then 2 else _) = 2
  rw [if_neg (by simp only [rSem]; omega), if_pos (by simp only [rSem]; omega)]
theorem lv_z (c s : Dev nD) : lv (dcell c (zSem s)) () = 3 := by
  have h : (zSem s).val = 24 + s.val := rfl
  have := s.isLt; have : nD = 8 := rfl
  show (if (zSem s).val < 9 then 0 else if (zSem s).val < 17 then 2 else if (zSem s).val < 24 then 0 else if (zSem s).val < 32 then 3 else 0) = 3
  rw [if_neg (by omega), if_neg (by omega), if_neg (by omega), if_pos (by omega)]

theorem obl_lv0 (c : Dev nD) : ∀ x ∈ obl c 0, x.1.1.2 = .tc ∧ 0 < lv x.1 () := by
  simp only [obl, oall, List.drop, List.forall_mem_cons, lv_bar, lv_r, lv_z]
  simp
theorem obl_lv7 (c : Dev nD) : ∀ x ∈ obl c 7, x.1.1.2 = .tc ∧ 1 < lv x.1 () := by
  simp only [obl, oall, List.drop, List.forall_mem_cons, lv_bar, lv_r, lv_z]
  simp
theorem obl_lv14 (c : Dev nD) : ∀ x ∈ obl c 14, x.1.1.2 = .tc ∧ 2 < lv x.1 () := by
  simp only [obl, oall, List.drop, List.forall_mem_cons, lv_bar, lv_r, lv_z]
  simp

end Cert.Exchange

end
-- ==== Proof.Mem.lean ====
/-
Loads and stores over owned memrefs: a slice, a whole memref through a rectangle, a slice with its leading axis
dropped; and the two halves of a result block.
-/
module

public import proofs.«01_k».proof.Proof.Base

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Generic

variable (c : Dev nD) {cs : CoreSpace} {sh : Shape} {e : EltTy}

/-- Loading a rectangle of a memref whose slice there is owned. -/
theorem ld_slice {α : Type} {Q : α → sProp 𝕄} (m : Memref sig .tc cs sh e) (r : Rect sh) (hr : ∀ a, r.stride a = 1) {hl : m.view.LoadsAt r}
    {k : (r.shape.Idx → Elt F e) → Prog (TpuEff nD τ sig (Elt F) Λ₀ .tc) α} (q : PosShare TreeShare) (X : r.shape.Idx → Elt F e) :
    (owns (c : Thread nD τ) (m.slice r hr) q X : sProp 𝕄)
      ⊢ iprop((owns (c : Thread nD τ) (m.slice r hr) q X -∗ WP c (k X) Q) -∗ WP c (.op (.load m r hl) k) Q) := by
  unfold owns
  iintro ⟨%f, %hf, H⟩ Hk
  iapply (wp_load_rect 𝒱₀ (c : Thread nD τ) none Set.univ (m := m) (r := r) (S := (m.slice r hr).view.set) (q := q) (f := f) (Finset.Subset.refl _)) $$ H
  iintro H
  rw [show (m.access r).read (Elt F) f = X from hf]
  iapply Hk
  iexists f
  isplitr; · ipureintro; exact hf
  iexact H

/-- Storing over a rectangle of a memref whose slice there is owned. -/
theorem st_slice {α : Type} {Q : α → sProp 𝕄} (m : Memref sig .tc cs sh e) (r : Rect sh) (hr : ∀ a, r.stride a = 1) {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} (X : r.shape.Idx → Elt F e) :
    (owns (c : Thread nD τ) (m.slice r hr) fullShare X : sProp 𝕄)
      ⊢ iprop((owns (c : Thread nD τ) (m.slice r hr) fullShare w -∗ WP c (k ⟨⟩) Q) -∗ WP c (.op (.store m r w Finset.univ hx hm) k) Q) := by
  unfold owns
  iintro ⟨%f, %hf, H⟩ Hk
  iapply (wp_store 𝒱₀ (c : Thread nD τ) none Set.univ (m := m) (r := r) (Mk := Finset.univ) (S := (m.slice r hr).view.set) (f := f) ((m.access r).setOn_subset_set _)) $$ H
  iintro H
  iapply Hk
  iexists (m.access r).write (Elt F) f w Finset.univ
  isplitr; · ipureintro; exact View.read_write_univ f w
  iexact H

/-- Loading a rectangle of an owned memref. -/
theorem ld_sub {α : Type} {Q : α → sProp 𝕄} (m : Memref sig .tc cs sh e) (r : Rect sh) {hl : m.view.LoadsAt r}
    {k : (r.shape.Idx → Elt F e) → Prog (TpuEff nD τ sig (Elt F) Λ₀ .tc) α} (q : PosShare TreeShare) (X : sh.Idx → Elt F e) :
    (owns (c : Thread nD τ) m q X : sProp 𝕄)
      ⊢ iprop((owns (c : Thread nD τ) m q X -∗ WP c (k fun j => X (r.emb j)) Q) -∗ WP c (.op (.load m r hl) k) Q) := by
  unfold owns
  iintro ⟨%f, %hf, H⟩ Hk
  iapply (wp_load_rect 𝒱₀ (c : Thread nD τ) none Set.univ (m := m) (r := r) (S := m.view.set) (q := q) (f := f) (View.set_slice_subset _ _)) $$ H
  iintro H
  rw [show (m.access r).read (Elt F) f = fun j => X (r.emb j) from by rw [← hf]; rfl]
  iapply Hk
  iexists f
  isplitr; · ipureintro; exact hf
  iexact H

/-- Storing over a rectangle of an owned memref. -/
theorem st_sub {α : Type} {Q : α → sProp 𝕄} [∀ e, Nonempty (Elt F e)] (m : Memref sig .tc cs sh e) (r : Rect sh) (hr : ∀ a, r.stride a = 1) {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} (X : sh.Idx → Elt F e) :
    (owns (c : Thread nD τ) m fullShare X : sProp 𝕄)
      ⊢ iprop((owns (c : Thread nD τ) m fullShare (r.overlay X w) -∗ WP c (k ⟨⟩) Q) -∗ WP c (.op (.store m r w Finset.univ hx hm) k) Q) := by
  iintro H Hk
  ihave H' := (owns_slice_split (c : Thread nD τ) m fullShare r hr X) $$ H
  icases H' with ⟨Hs, ⟨%f, %hf, Hr⟩⟩
  iapply (st_slice c m r hr (w := w) (hx := hx) (hm := hm) _) $$ Hs
  iintro Hs
  iapply Hk
  subst hf
  iapply (owns_slice_join (c : Thread nD τ) m fullShare r hr w f)
  isplitl [Hs]; · iexact Hs
  iexact Hr

omit [FloatOps F] in
/-- A memref of another shape of as many elements, owned: the memref, owned at the contents in its own shape. -/
theorem owns_sq {sp : Space} (d : Dev nD) (m : Memref sig .tc sp sh e) (s' : Shape) (hs : sh.Squeezes s') (hn : sh.numel = s'.numel)
    (q : PosShare TreeShare) (X : s'.Idx → Elt F e) :
    (owns (d : Thread nD τ) (m.squeeze s' hs) q X : sProp 𝕄) = owns (d : Thread nD τ) m q (fun i => X (Shape.reshapeEquiv hn i)) := by
  have hset : (m.squeeze s' hs).view.set = m.view.set := View.set_reshape _ _
  have hread (f : m.view.ty.Contents (Elt F)) :
      (m.squeeze s' hs).view.read (Elt F) f = X ↔ m.view.read (Elt F) f = fun i => X (Shape.reshapeEquiv hn i) := by
    constructor
    · intro h; subst h; funext i
      show _ = m.view.read (Elt F) f (Shape.reshapeEquiv _ (Shape.reshapeEquiv hn i))
      rw [Shape.reshapeEquiv_reshapeEquiv, Shape.reshapeEquiv_self]
    · intro h; funext i
      show m.view.read (Elt F) f (Shape.reshapeEquiv _ i) = _
      rw [h]; dsimp only; rw [Shape.reshapeEquiv_reshapeEquiv, Shape.reshapeEquiv_self]
  unfold owns
  refine BI.equiv_iff.mp ⟨?_, ?_⟩
  · show (_ : sProp 𝕄) ⊢ _
    iintro ⟨%f, %hf, H⟩; iexists f
    isplitr; · ipureintro; exact (hread f).mp hf
    rw [hset]; iexact H
  · show (_ : sProp 𝕄) ⊢ _
    iintro ⟨%f, %hf, H⟩; iexists f
    isplitr; · ipureintro; exact (hread f).mpr hf
    rw [hset]; iexact H

end Generic

/-! ## The two halves of a result block -/

section Halves

variable {α : Type}

theorem joinH_zero (A B : S512x4096.Idx → α) : (fun j => joinH A B ((oR 0).emb j)) = A := by
  funext j
  have h1 : (((oR 0).emb j) 1).val = (j 1).val := by simp [Rect.emb_apply]
  unfold joinH
  rw [dif_pos (by rw [h1]; exact (j 1).isLt)]
  congr 1
  funext a; apply Fin.ext
  match a with
  | 0 => show (((oR 0).emb j) 0).val = _; simp [Rect.emb_apply]
  | 1 => exact h1

theorem joinH_one (A B : S512x4096.Idx → α) : (fun j => joinH A B ((oR 1).emb j)) = B := by
  funext j
  have h1 : (((oR 1).emb j) 1).val = 4096 + (j 1).val := by simp [Rect.emb_apply]
  unfold joinH
  rw [dif_neg (by rw [h1]; omega)]
  congr 1
  funext a; apply Fin.ext
  match a with
  | 0 => show (((oR 1).emb j) 0).val = _; simp [Rect.emb_apply]
  | 1 => show (((oR 1).emb j) 1).val - 4096 = _; rw [h1]; omega

theorem mem_half (i : S512x8192.Idx) (h : Fin 2) : i ∈ (oR h).set ↔ h.val * 4096 ≤ (i 1).val ∧ (i 1).val < h.val * 4096 + 4096 := by
  rw [Rect.mem_set_unit]
  constructor
  · exact fun H => H 1
  · intro H a
    match a with
    | 0 => exact ⟨Nat.zero_le _, by show (i 0).val < 0 + 512; rw [Nat.zero_add]; exact (i 0).isLt⟩
    | 1 => exact H

theorem half_cases (i : S512x8192.Idx) : i ∈ (oR 0).set ∨ i ∈ (oR 1).set := by
  rw [mem_half, mem_half]
  have : (i 1).val < 8192 := (i 1).isLt
  have h0 : (0 : Fin 2).val = 0 := rfl
  have h1 : (1 : Fin 2).val = 1 := rfl
  omega

/-- A block is its two halves. -/
theorem ext_halves {X Y : S512x8192.Idx → α} (h0 : (fun j => X ((oR 0).emb j)) = fun j => Y ((oR 0).emb j))
    (h1 : (fun j => X ((oR 1).emb j)) = fun j => Y ((oR 1).emb j)) : X = Y := by
  funext i
  rcases half_cases i with h | h
  · obtain ⟨j, rfl⟩ := (oR 0).exists_idx_of_mem h; exact congrFun h0 j
  · obtain ⟨j, rfl⟩ := (oR 1).exists_idx_of_mem h; exact congrFun h1 j

theorem join_self (Y : S512x8192.Idx → α) : joinH (fun j => Y ((oR 0).emb j)) (fun j => Y ((oR 1).emb j)) = Y :=
  ext_halves (joinH_zero _ _) (joinH_one _ _)

theorem half_disj (h h' : Fin 2) (hh : h ≠ h') (j : (oR h).shape.Idx) : (oR h).emb j ∉ (oR h').set := by
  intro H
  have H0 : (oR h).emb j ∈ (oR h).set := (oR h).idx_mem j
  rw [mem_half] at H H0
  have : h.val ≠ h'.val := fun e => hh (Fin.ext e)
  omega

theorem overlay_zero (A B V : S512x4096.Idx → α) : (oR 0).overlay (joinH A B) V = joinH V B :=
  ext_halves ((funext fun j => Rect.overlay_emb _ _ _ j).trans (joinH_zero V B).symm)
    ((funext fun j => Rect.overlay_of_not_mem _ _ _ (half_disj 1 0 (by decide) j)).trans ((joinH_one A B).trans (joinH_one V B).symm))

theorem overlay_one (A B V : S512x4096.Idx → α) : (oR 1).overlay (joinH A B) V = joinH A V :=
  ext_halves ((funext fun j => Rect.overlay_of_not_mem _ _ _ (half_disj 0 1 (by decide) j)).trans ((joinH_zero A B).trans (joinH_zero A V).symm))
    ((funext fun j => Rect.overlay_emb _ _ _ j).trans (joinH_one A V).symm)

end Halves

end Cert.Exchange

end
-- ==== Proof.Eqs.lean ====
/-
The words the kernel computes its addresses, devices and semaphores with, as the ring's places.
-/
module

public import proofs.«01_k».proof.Proof.Base

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Devices -/

theorem dev1_eq (c : Dev nD) : (⟨k0_dev1 c, k0_dev1_lt c⟩ : Dev nD) = pe c 1 := Fin.ext (by revert c; decide)
theorem dev2_eq (c : Dev nD) : (⟨k0_dev2 c, k0_dev2_lt c⟩ : Dev nD) = pe c 2 := Fin.ext (by revert c; decide)
theorem dev3_eq (c : Dev nD) : (⟨k0_dev3 c, k0_dev3_lt c⟩ : Dev nD) = pe c 3 := Fin.ext (by revert c; decide)
theorem dev4_eq (c : Dev nD) : (⟨k0_dev4 c, k0_dev4_lt c⟩ : Dev nD) = pe c 4 := Fin.ext (by revert c; decide)
theorem dev5_eq (c : Dev nD) : (⟨k0_dev5 c, k0_dev5_lt c⟩ : Dev nD) = pe c 5 := Fin.ext (by revert c; decide)
theorem dev6_eq (c : Dev nD) : (⟨k0_dev6 c, k0_dev6_lt c⟩ : Dev nD) = pe c 6 := Fin.ext (by revert c; decide)
theorem dev7_eq (c : Dev nD) : (⟨k0_dev7 c, k0_dev7_lt c⟩ : Dev nD) = pe c 7 := Fin.ext (by revert c; decide)
theorem dev8_eq (c : Dev nD) : (⟨k0_dev8 c, k0_dev8_lt c⟩ : Dev nD) = pe c 1 := Fin.ext (by revert c; decide)
theorem dev9_eq (c : Dev nD) : (⟨k0_dev9 c, k0_dev9_lt c⟩ : Dev nD) = pe c 2 := Fin.ext (by revert c; decide)
theorem dev10_eq (c : Dev nD) : (⟨k0_dev10 c, k0_dev10_lt c⟩ : Dev nD) = pe c 3 := Fin.ext (by revert c; decide)
theorem dev11_eq (c : Dev nD) : (⟨k0_dev11 c, k0_dev11_lt c⟩ : Dev nD) = pe c 4 := Fin.ext (by revert c; decide)
theorem dev12_eq (c : Dev nD) : (⟨k0_dev12 c, k0_dev12_lt c⟩ : Dev nD) = pe c 5 := Fin.ext (by revert c; decide)
theorem dev13_eq (c : Dev nD) : (⟨k0_dev13 c, k0_dev13_lt c⟩ : Dev nD) = pe c 6 := Fin.ext (by revert c; decide)
theorem dev14_eq (c : Dev nD) : (⟨k0_dev14 c, k0_dev14_lt c⟩ : Dev nD) = pe c 7 := Fin.ext (by revert c; decide)
theorem dev15_eq (c : Dev nD) : (⟨k0_dev15 c, k0_dev15_lt c⟩ : Dev nD) = pe c 1 := Fin.ext (by revert c; decide)
theorem dev16_eq (c : Dev nD) : (⟨k0_dev16 c, k0_dev16_lt c⟩ : Dev nD) = pe c 2 := Fin.ext (by revert c; decide)
theorem dev17_eq (c : Dev nD) : (⟨k0_dev17 c, k0_dev17_lt c⟩ : Dev nD) = pe c 3 := Fin.ext (by revert c; decide)
theorem dev18_eq (c : Dev nD) : (⟨k0_dev18 c, k0_dev18_lt c⟩ : Dev nD) = pe c 4 := Fin.ext (by revert c; decide)
theorem dev19_eq (c : Dev nD) : (⟨k0_dev19 c, k0_dev19_lt c⟩ : Dev nD) = pe c 5 := Fin.ext (by revert c; decide)
theorem dev20_eq (c : Dev nD) : (⟨k0_dev20 c, k0_dev20_lt c⟩ : Dev nD) = pe c 6 := Fin.ext (by revert c; decide)
theorem dev21_eq (c : Dev nD) : (⟨k0_dev21 c, k0_dev21_lt c⟩ : Dev nD) = pe c 7 := Fin.ext (by revert c; decide)

/-! ## Offsets -/

theorem off1_eq (c : Dev nD) : k0_off1 c = ![c.val] := by revert c; decide
theorem off2_eq (c : Dev nD) : k0_off2 c = ![c.val, 0, 0] := by revert c; decide
theorem off4_eq (c : Dev nD) : k0_off4 c = ![c.val * 512, 0] := by revert c; decide
theorem off5_eq (c : Dev nD) : k0_off5 c = ![c.val, 0, 0] := by revert c; decide
theorem off11_eq (c : Dev nD) : k0_off11 c = ![c.val, 0] := by revert c; decide
theorem off12_eq (c : Dev nD) : k0_off12 c = ![c.val, 0] := by revert c; decide
theorem off3_eq1 (c : Dev nD) : k0_off3 c 1#32 = ![(pe c 1).val * 512, 0] := by revert c; decide
theorem off3_eq2 (c : Dev nD) : k0_off3 c 2#32 = ![(pe c 2).val * 512, 0] := by revert c; decide
theorem off3_eq3 (c : Dev nD) : k0_off3 c 3#32 = ![(pe c 3).val * 512, 0] := by revert c; decide
theorem off3_eq4 (c : Dev nD) : k0_off3 c 4#32 = ![(pe c 4).val * 512, 0] := by revert c; decide
theorem off3_eq5 (c : Dev nD) : k0_off3 c 5#32 = ![(pe c 5).val * 512, 0] := by revert c; decide
theorem off3_eq6 (c : Dev nD) : k0_off3 c 6#32 = ![(pe c 6).val * 512, 0] := by revert c; decide
theorem off3_eq7 (c : Dev nD) : k0_off3 c 7#32 = ![(pe c 7).val * 512, 0] := by revert c; decide
theorem off6_eq0 (c : Dev nD) : k0_off6 c 0#32 = ![(og c 0).val * 512, (0 : Fin 2).val * 4096] := by revert c; decide
theorem off7_eq0 (c : Dev nD) : k0_off7 c 0#32 = ![(og c 0).val * 512, (1 : Fin 2).val * 4096] := by revert c; decide
theorem off8_eq0 (c : Dev nD) : k0_off8 c 0#32 = ![(og c 0).val, 0, 0] := by revert c; decide
theorem off8_eq0' (c : Dev nD) : k0_off8 c 0#32 = ![c.val, 0, 0] := by revert c; decide
theorem off6_eq1 (c : Dev nD) : k0_off6 c 1#32 = ![(og c 1).val * 512, (0 : Fin 2).val * 4096] := by revert c; decide
theorem off7_eq1 (c : Dev nD) : k0_off7 c 1#32 = ![(og c 1).val * 512, (1 : Fin 2).val * 4096] := by revert c; decide
theorem off8_eq1 (c : Dev nD) : k0_off8 c 1#32 = ![(og c 1).val, 0, 0] := by revert c; decide
theorem off6_eq2 (c : Dev nD) : k0_off6 c 2#32 = ![(og c 2).val * 512, (0 : Fin 2).val * 4096] := by revert c; decide
theorem off7_eq2 (c : Dev nD) : k0_off7 c 2#32 = ![(og c 2).val * 512, (1 : Fin 2).val * 4096] := by revert c; decide
theorem off8_eq2 (c : Dev nD) : k0_off8 c 2#32 = ![(og c 2).val, 0, 0] := by revert c; decide
theorem off6_eq3 (c : Dev nD) : k0_off6 c 3#32 = ![(og c 3).val * 512, (0 : Fin 2).val * 4096] := by revert c; decide
theorem off7_eq3 (c : Dev nD) : k0_off7 c 3#32 = ![(og c 3).val * 512, (1 : Fin 2).val * 4096] := by revert c; decide
theorem off8_eq3 (c : Dev nD) : k0_off8 c 3#32 = ![(og c 3).val, 0, 0] := by revert c; decide
theorem off6_eq4 (c : Dev nD) : k0_off6 c 4#32 = ![(og c 4).val * 512, (0 : Fin 2).val * 4096] := by revert c; decide
theorem off7_eq4 (c : Dev nD) : k0_off7 c 4#32 = ![(og c 4).val * 512, (1 : Fin 2).val * 4096] := by revert c; decide
theorem off8_eq4 (c : Dev nD) : k0_off8 c 4#32 = ![(og c 4).val, 0, 0] := by revert c; decide
theorem off6_eq5 (c : Dev nD) : k0_off6 c 5#32 = ![(og c 5).val * 512, (0 : Fin 2).val * 4096] := by revert c; decide
theorem off7_eq5 (c : Dev nD) : k0_off7 c 5#32 = ![(og c 5).val * 512, (1 : Fin 2).val * 4096] := by revert c; decide
theorem off8_eq5 (c : Dev nD) : k0_off8 c 5#32 = ![(og c 5).val, 0, 0] := by revert c; decide
theorem off6_eq6 (c : Dev nD) : k0_off6 c 6#32 = ![(og c 6).val * 512, (0 : Fin 2).val * 4096] := by revert c; decide
theorem off7_eq6 (c : Dev nD) : k0_off7 c 6#32 = ![(og c 6).val * 512, (1 : Fin 2).val * 4096] := by revert c; decide
theorem off8_eq6 (c : Dev nD) : k0_off8 c 6#32 = ![(og c 6).val, 0, 0] := by revert c; decide
theorem off6_eq7 (c : Dev nD) : k0_off6 c 7#32 = ![(og c 7).val * 512, (0 : Fin 2).val * 4096] := by revert c; decide
theorem off7_eq7 (c : Dev nD) : k0_off7 c 7#32 = ![(og c 7).val * 512, (1 : Fin 2).val * 4096] := by revert c; decide
theorem off8_eq7 (c : Dev nD) : k0_off8 c 7#32 = ![(og c 7).val, 0, 0] := by revert c; decide
theorem off9_eq1 (c : Dev nD) : k0_off9 c 1#32 = ![(og c 1).val] := by revert c; decide
theorem off10_eq1 (c : Dev nD) : k0_off10 c 1#32 = ![(og c 1).val, 0, 0] := by revert c; decide
theorem off13_eq1 (c : Dev nD) : k0_off13 c 1#32 = ![(og c 1).val, 0] := by revert c; decide
theorem off9_eq2 (c : Dev nD) : k0_off9 c 2#32 = ![(og c 2).val] := by revert c; decide
theorem off10_eq2 (c : Dev nD) : k0_off10 c 2#32 = ![(og c 2).val, 0, 0] := by revert c; decide
theorem off13_eq2 (c : Dev nD) : k0_off13 c 2#32 = ![(og c 2).val, 0] := by revert c; decide
theorem off9_eq3 (c : Dev nD) : k0_off9 c 3#32 = ![(og c 3).val] := by revert c; decide
theorem off10_eq3 (c : Dev nD) : k0_off10 c 3#32 = ![(og c 3).val, 0, 0] := by revert c; decide
theorem off13_eq3 (c : Dev nD) : k0_off13 c 3#32 = ![(og c 3).val, 0] := by revert c; decide
theorem off9_eq4 (c : Dev nD) : k0_off9 c 4#32 = ![(og c 4).val] := by revert c; decide
theorem off10_eq4 (c : Dev nD) : k0_off10 c 4#32 = ![(og c 4).val, 0, 0] := by revert c; decide
theorem off13_eq4 (c : Dev nD) : k0_off13 c 4#32 = ![(og c 4).val, 0] := by revert c; decide
theorem off9_eq5 (c : Dev nD) : k0_off9 c 5#32 = ![(og c 5).val] := by revert c; decide
theorem off10_eq5 (c : Dev nD) : k0_off10 c 5#32 = ![(og c 5).val, 0, 0] := by revert c; decide
theorem off13_eq5 (c : Dev nD) : k0_off13 c 5#32 = ![(og c 5).val, 0] := by revert c; decide
theorem off9_eq6 (c : Dev nD) : k0_off9 c 6#32 = ![(og c 6).val] := by revert c; decide
theorem off10_eq6 (c : Dev nD) : k0_off10 c 6#32 = ![(og c 6).val, 0, 0] := by revert c; decide
theorem off13_eq6 (c : Dev nD) : k0_off13 c 6#32 = ![(og c 6).val, 0] := by revert c; decide
theorem off9_eq7 (c : Dev nD) : k0_off9 c 7#32 = ![(og c 7).val] := by revert c; decide
theorem off10_eq7 (c : Dev nD) : k0_off10 c 7#32 = ![(og c 7).val, 0, 0] := by revert c; decide
theorem off13_eq7 (c : Dev nD) : k0_off13 c 7#32 = ![(og c 7).val, 0] := by revert c; decide

/-! ## Semaphores of the arrays the kernel is handed -/

theorem sem_s0 : ((cc0_scratch3.slice (Rect.unit (s := S7) ![0] S1.size inb_S7_S1_0)).squeeze S_ squeezes_S1_S_).sem = sSem 0 := by decide
theorem sem_s1 : ((cc0_scratch3.slice (Rect.unit (s := S7) ![1] S1.size inb_S7_S1_1)).squeeze S_ squeezes_S1_S_).sem = sSem 1 := by decide
theorem sem_s2 : ((cc0_scratch3.slice (Rect.unit (s := S7) ![2] S1.size inb_S7_S1_2)).squeeze S_ squeezes_S1_S_).sem = sSem 2 := by decide
theorem sem_s3 : ((cc0_scratch3.slice (Rect.unit (s := S7) ![3] S1.size inb_S7_S1_3)).squeeze S_ squeezes_S1_S_).sem = sSem 3 := by decide
theorem sem_s4 : ((cc0_scratch3.slice (Rect.unit (s := S7) ![4] S1.size inb_S7_S1_4)).squeeze S_ squeezes_S1_S_).sem = sSem 4 := by decide
theorem sem_s5 : ((cc0_scratch3.slice (Rect.unit (s := S7) ![5] S1.size inb_S7_S1_5)).squeeze S_ squeezes_S1_S_).sem = sSem 5 := by decide
theorem sem_s6 : ((cc0_scratch3.slice (Rect.unit (s := S7) ![6] S1.size inb_S7_S1_6)).squeeze S_ squeezes_S1_S_).sem = sSem 6 := by decide
theorem sem_t0 : ((cc0_scratch5.slice (Rect.unit (s := S7) ![0] S1.size inb_S7_S1_0)).squeeze S_ squeezes_S1_S_).sem = tSem 0 := by decide
theorem sem_t1 : ((cc0_scratch5.slice (Rect.unit (s := S7) ![1] S1.size inb_S7_S1_1)).squeeze S_ squeezes_S1_S_).sem = tSem 1 := by decide
theorem sem_t2 : ((cc0_scratch5.slice (Rect.unit (s := S7) ![2] S1.size inb_S7_S1_2)).squeeze S_ squeezes_S1_S_).sem = tSem 2 := by decide
theorem sem_t3 : ((cc0_scratch5.slice (Rect.unit (s := S7) ![3] S1.size inb_S7_S1_3)).squeeze S_ squeezes_S1_S_).sem = tSem 3 := by decide
theorem sem_t4 : ((cc0_scratch5.slice (Rect.unit (s := S7) ![4] S1.size inb_S7_S1_4)).squeeze S_ squeezes_S1_S_).sem = tSem 4 := by decide
theorem sem_t5 : ((cc0_scratch5.slice (Rect.unit (s := S7) ![5] S1.size inb_S7_S1_5)).squeeze S_ squeezes_S1_S_).sem = tSem 5 := by decide
theorem sem_t6 : ((cc0_scratch5.slice (Rect.unit (s := S7) ![6] S1.size inb_S7_S1_6)).squeeze S_ squeezes_S1_S_).sem = tSem 6 := by decide
theorem sem_w0 : ((cc0_scratch7.slice (Rect.unit (s := S2) ![0] S1.size inb_S2_S1_0)).squeeze S_ squeezes_S1_S_).sem = wSem 0 := by decide
theorem sem_w1 : ((cc0_scratch7.slice (Rect.unit (s := S2) ![1] S1.size inb_S2_S1_1)).squeeze S_ squeezes_S1_S_).sem = wSem 1 := by decide
theorem eight_inb (s : Fin 8) : ∀ a, (![s.val] : Fin 1 → Nat) a + S1.size a ≤ S8.size a := by revert s; decide
theorem sem_r {off : Fin 1 → Nat} {inb : ∀ a, off a + S1.size a ≤ S8.size a} {s : Fin 8} (h : off = ![s.val]) :
    ((cc0_scratch4.slice (Rect.unit (s := S8) off S1.size inb)).squeeze S_ squeezes_S1_S_).sem = rSem s := by
  subst h
  exact (by decide : ∀ s : Fin 8, ((cc0_scratch4.slice (Rect.unit (s := S8) ![s.val] S1.size (eight_inb s))).squeeze S_ squeezes_S1_S_).sem = rSem s) s
theorem sem_z {off : Fin 1 → Nat} {inb : ∀ a, off a + S1.size a ≤ S8.size a} {s : Fin 8} (h : off = ![s.val]) :
    ((cc0_scratch6.slice (Rect.unit (s := S8) off S1.size inb)).squeeze S_ squeezes_S1_S_).sem = zSem s := by
  subst h
  exact (by decide : ∀ s : Fin 8, ((cc0_scratch6.slice (Rect.unit (s := S8) ![s.val] S1.size (eight_inb s))).squeeze S_ squeezes_S1_S_).sem = zSem s) s

/-! ## Memrefs -/

theorem xrow_eq {off : Fin 2 → Nat} {inb : ∀ a, off a + S512x512.size a ≤ S4096x512.size a} {r : Fin 8} (h : off = ![r.val * 512, 0]) :
    xM.slice (Rect.unit (s := S4096x512) off S512x512.size inb) (fun _ => rfl) = xrow r := by subst h; rfl
theorem slot_eq {off : Fin 3 → Nat} {inb : ∀ a, off a + S1x512x512.size a ≤ S8x512x512.size a} {s : Fin 8} (h : off = ![s.val, 0, 0]) :
    (rM.slice (Rect.unit (s := S8x512x512) off S1x512x512.size inb) (fun _ => rfl)).squeeze S512x512 squeezes_S1x512x512_S512x512 = slot s := by
  subst h; rfl
theorem arow_eq {off : Fin 2 → Nat} {inb : ∀ a, off a + S1x128.size a ≤ S8x128.size a} {s : Fin 8} (h : off = ![s.val, 0]) :
    aM.slice (Rect.unit (s := S8x128) off S1x128.size inb) (fun _ => rfl) = arow s := by subst h; rfl
theorem wslot_eq {off : Fin 3 → Nat} {inb : ∀ a, off a + S1x512x4096.size a ≤ S2x512x4096.size a} {h : Fin 2} (e : off = ![h.val, 0, 0]) :
    (bM.slice (Rect.unit (s := S2x512x4096) off S1x512x4096.size inb) (fun _ => rfl)).squeeze S512x4096 squeezes_S1x512x4096_S512x4096 = wslot h := by
  subst e; rfl
theorem wblk_eq {off : Fin 2 → Nat} {inb : ∀ a, off a + S512x4096.size a ≤ S4096x8192.size a} {r : Fin 8} {h : Fin 2}
    (e : off = ![r.val * 512, h.val * 4096]) :
    wM.slice (Rect.unit (s := S4096x8192) off S512x4096.size inb) (fun _ => rfl) = wblk r h := by subst e; rfl

end Cert.Exchange

end
-- ==== Proof.Ops.lean ====
/-
One rule per operation of the kernel's body, over the protocol's cells: signals and the barrier wait, the
remote copies of the blocks and of the maxima, their waits, the copies of the weights, loads and stores.
-/
module

public import proofs.«01_k».proof.Proof.Mem
public import proofs.«01_k».proof.Proof.Eqs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells, indexed, and what every device knows of them -/

set_option backward.proofsInPublic true in
/-- Cell `0` of a device is its barrier's, cells `1 … 30` its DMA semaphores `2 … 31`. -/
def cellSem (k : Fin 31) : SemLoc sig :=
  if k.val = 0 then .reg barS else .dma (⟨k.val + 1, by have := k.isLt; omega⟩ : Fin 34)
abbrev kcell (ck : Dev nD × Fin 31) : GSem nD τ sig := ((ck.1 : Thread nD τ), cellSem ck.2)

theorem cellSem_dma (q : DmaSem sig) (h2 : 2 ≤ q.val) (h3 : q.val < 32) : ∃ k : Fin 31, cellSem k = .dma q := by
  refine ⟨⟨q.val - 1, by omega⟩, ?_⟩
  unfold cellSem
  rw [if_neg (by show ¬ q.val - 1 = 0; omega)]
  exact congrArg SemLoc.dma (Fin.ext (by show q.val - 1 + 1 = q.val; omega))

section Ops

variable (m : (ℓ : Loc nD τ sig) → Buf (Elt F) ℓ) (K : Dev nD × Fin 31 → ℕ)

/-- The invariants and the round-0 marks of all cells, and the levels. -/
def PC : sProp 𝕄 :=
  iprop((bigSep Finset.univ fun ck : Dev nD × Fin 31 => cellInv ER (Rd m) (K ck) (kcell ck))
    ∗ (bigSep Finset.univ fun ck : Dev nD × Fin 31 => reached ER (kcell ck) 0) ∗ levAts L lv)

instance PC_persistent : BI.Persistent (PC (F := F) m K) := by unfold PC; infer_instance

theorem inv_at (ck : Dev nD × Fin 31) :
    (bigSep Finset.univ fun ck : Dev nD × Fin 31 => (cellInv ER (Rd m) (K ck) (kcell ck) : sProp 𝕄)) ⊢ cellInv ER (Rd m) (K ck) (kcell ck) :=
  bigSep_elim (Finset.mem_univ ck)
omit [FloatOps F] in
theorem mark_at (ck : Dev nD × Fin 31) :
    (bigSep Finset.univ fun ck : Dev nD × Fin 31 => (reached ER (kcell ck) 0 : sProp 𝕄)) ⊢ reached ER (kcell ck) 0 :=
  bigSep_elim (Finset.mem_univ ck)

theorem pc_at (ck : Dev nD × Fin 31) :
    PC m K ⊢ iprop(cellInv ER (Rd m) (K ck) (kcell ck) ∗ reached ER (kcell ck) 0) := by
  unfold PC
  iintro ⟨HI, HR, -⟩
  isplitl [HI]
  · iapply (inv_at m K ck); iexact HI
  · iapply (mark_at (F := F) ck); iexact HR

theorem pc_bar (c : Dev nD) : PC m K ⊢ iprop(∃ κ : ℕ, cellInv ER (Rd m) κ (barCell c) ∗ reached ER (barCell c) 0) := by
  iintro H
  iexists K (c, 0)
  iapply (pc_at m K (c, 0)); iexact H

theorem pc_dma (c : Dev nD) (q : DmaSem sig) (h2 : 2 ≤ q.val) (h3 : q.val < 32) :
    PC m K ⊢ iprop(∃ κ : ℕ, cellInv ER (Rd m) κ (dcell c q) ∗ reached ER (dcell c q) 0) := by
  obtain ⟨k, hk⟩ := cellSem_dma q h2 h3
  iintro H
  iexists K (c, k)
  ihave H' := (pc_at m K (c, k)) $$ H
  unfold kcell
  rw [hk]
  iexact H'

theorem pc_lev : PC m K ⊢ levAts L lv := by
  unfold PC
  iintro ⟨-, -, H⟩
  iexact H

/-- What a device still owes, having made its first `n` payments. -/
def Ow (c : Dev nD) (n : ℕ) : sProp 𝕄 := iprop(∃ W, owes (c : Thread nD τ) (owedL (obl c n)) W)

/-! ## The barrier -/

theorem op_signal {α : Type} {Q : α → sProp 𝕄} (c p p' : Dev nD) (n : ℕ) {k : PUnit → Prog (TpuEff nD τ sig (Elt F) Λ₀ .tc) α}
    (hp : p' = p) (hl : obl c n = (barCell p, 1) :: obl c (n + 1)) (hne : c ≠ p) :
    PC m K ⊢ iprop(Ow c n -∗ dutyTok ER (barCell p) 0 c -∗ barPay p c -∗ (Ow c (n + 1) -∗ WP c (k ⟨⟩) Q)
      -∗ WP c (.op (.semSignal (p' : Thread nD τ) barS (1#32 : BitVec 32).toInt) k) Q) := by
  subst hp
  unfold Ow
  rw [hl]
  iintro #HP ⟨%W, HO⟩ Ht Hp Hk
  ihave HI := (pc_bar m K p') $$ HP
  icases HI with ⟨%κ, #HI, #HR⟩
  iapply (Rounds.wp_signal 𝒱₀ ER (Rd m) (c : Thread nD τ) none (dst := (p' : Thread nD τ)) (κ := κ)
      (d := c) (by rw [duties_bar]; exact Finset.mem_erase.mpr ⟨hne, Finset.mem_univ _⟩) ((amount_bar m p' c).trans (by decide)) () (owedL (obl c (n + 1))) rfl)
    $$ [HO Ht Hp]
  · isplitr; · iexact HI
    isplitl [HO]; · iexact HO
    isplitl [Ht]; · iexact Ht
    isplitl [Hp]; · rw [payload_bar]; iexact Hp
    iexact HR
  iintro HO
  iapply Hk
  iexists W
  iexact HO

theorem rest_bar (c : Dev nD) :
    bigSep ((Rd (F := F) m).duties (barCell c) 0 \ ∅) (fun d => (Rd (F := F) m).payload (barCell c) 0 d)
      = iprop(barPay c (pe c 1) ∗ barPay c (pe c 2) ∗ barPay c (pe c 3) ∗ barPay c (pe c 4) ∗ barPay c (pe c 5) ∗ barPay c (pe c 6) ∗ barPay c (pe c 7)) := by
  rw [Finset.sdiff_empty, duties_bar, bigSep_others]
  rfl

theorem op_barwait {α : Type} {Q : α → sProp 𝕄} (c : Dev nD) {k : PUnit → Prog (TpuEff nD τ sig (Elt F) Λ₀ .tc) α} :
    PC m K ⊢ iprop(Ow c 7 -∗ cred (tallyAt (barCell c) () 7) -∗ atPos ER (barCell c) 0 ∅ 0
      -∗ ((Ow c 7 ∗ barPay c (pe c 1) ∗ barPay c (pe c 2) ∗ barPay c (pe c 3) ∗ barPay c (pe c 4) ∗ barPay c (pe c 5) ∗ barPay c (pe c 6) ∗ barPay c (pe c 7) ∗ atPos ER (barCell c) 1 ∅ 0)
          -∗ WP c (k ⟨⟩) Q)
      -∗ WP c (.op (.semWait barS (7#32 : BitVec 32).toInt) k) Q) := by
  unfold Ow
  iintro #HP ⟨%W, HO⟩ Hc Ha Hk
  ihave HI := (pc_bar m K c) $$ HP
  icases HI with ⟨%κ, #HI, #HR⟩
  iapply (Rounds.wp_wait_rest_token 𝒱₀ ER (Rd m) (c : Thread nD τ) none (κ := κ)
      (wpE_semWait_eq 𝒱₀ (c : Thread nD τ) none Set.univ) (Set.mem_univ _) () (O := owedL (obl c 7)) (W := W) (R := 0) (m := 0) (T := ∅)
      (by rw [expect_bar]; decide)) $$ [Hc HO Ha]
  · isplitr; · iexact HI
    isplitl [Hc]; · iexact Hc
    isplitl [HO]; · iexact HO
    isplitr
    · iapply (mayWait_obl 1 c (.reg barS) (obl_lv7 c) (Nat.le_refl 1)); iapply (pc_lev m K); iexact HP
    iexact Ha
  iintro ⟨HO, Ha, -, Hpay⟩
  ihave Hp := (Entails.of_eq (rest_bar m c)) $$ Hpay
  icases Hp with ⟨H1, H2, H3, H4, H5, H6, H7⟩
  iapply Hk
  isplitl [HO]
  · iexists _; iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Ha

/-! ## The blocks -/

/-- A remote copy between owned memrefs: the source's share goes to the send cell, the destination, holding what
    the source held, to the cell on the other device. -/
theorem op_remote {α : Type} {Q : α → sProp 𝕄} (c p : Dev nD) (n N : ℕ) {sh : Shape} {e : EltTy} (share : PosShare TreeShare) (X : sh.Idx → Elt F e)
    {src dst : Memref sig .tc .vmem sh e} {q1 q2 : DmaSem sig} {hsc : dst.view.ref.isScScratch = false}
    {hs : src.view.WordExact} {hd : dst.view.WordExact} {hsem : DmaTarget.Typed (nD := nD) (τ := τ) .vmem (.dma q2) (.remote (Dev.tc p) dst (.dma q1) hsc)}
    {k : PUnit → Prog (TpuEff nD τ sig (Elt F) Λ₀ .tc) α}
    (hN : dst.view.amount (.dma q2) = N)
    (h12 : 2 ≤ q1.val) (h13 : q1.val < 32) (h22 : 2 ≤ q2.val) (h23 : q2.val < 32)
    (hdut1 : (Rd (F := F) m).duties (dcell c q1) 0 = {0}) (hdut2 : (Rd (F := F) m).duties (dcell p q2) 0 = {0})
    (hamt1 : (Rd (F := F) m).amount (dcell c q1) 0 0 = N) (hamt2 : (Rd (F := F) m).amount (dcell p q2) 0 0 = N)
    (hpay1 : (Rd (F := F) m).payload (dcell c q1) 0 0 = owns (c : Thread nD τ) src share X)
    (hpay2 : (Rd (F := F) m).payload (dcell p q2) 0 0 = owns (p : Thread nD τ) dst fullShare X)
    (hl : obl c n = (dcell p q2, N) :: obl c (n + 1)) :
    PC m K ⊢ iprop(Ow c n -∗ owns (c : Thread nD τ) src share X
      -∗ (∃ Y, owns (p : Thread nD τ) dst fullShare Y)
      -∗ dutyTok ER (dcell c q1) 0 0 -∗ dutyTok ER (dcell p q2) 0 0
      -∗ ((cred (tallyAt (dcell c q1) () N) ∗ Ow c (n + 1)) -∗ WP c (k ⟨⟩) Q)
      -∗ WP c (.op (.enqueueDma src (.remote (Dev.tc p) dst (.dma q1) hsc) (.dma q2) hs hd hsem) k) Q) := by
  unfold Ow
  rw [hl]
  iintro #HP ⟨%W, HO⟩ Hx ⟨%Y, Hd⟩ Ht1 Ht2 Hk
  ihave HI := (pc_dma m K c q1 h12 h13) $$ HP
  icases HI with ⟨%κ₁, #HI1, #HR1⟩
  ihave HI := (pc_dma m K p q2 h22 h23) $$ HP
  icases HI with ⟨%κ₂, #HI2, #HR2⟩
  unfold owns
  icases Hx with ⟨%fs, %hfs, Hx⟩
  icases Hd with ⟨%fd, %hfd, Hd⟩
  iapply (Rounds.wp_send_pointsTo 𝒱₀ ER (Rd m) (c : Thread nD τ) none
    (c' := (p : Thread nD τ)) (src := src) (dst := dst) (sS := .dma q1) (sem := .dma q2)
    (κ₁ := κ₁) (κ₂ := κ₂) (r₁ := 0) (r₂ := 0) (d₁ := 0) (d₂ := 0) (q := share) (fs := fs) (fd := fd)
    (by rw [hdut1]; exact Finset.mem_singleton_self _) (by rw [hdut2]; exact Finset.mem_singleton_self _)
    () () N hN hamt1 hamt2 (owedL (obl c (n + 1))) rfl (W := W)
    (by rw [hpay1]; unfold owns; iintro H; iexists fs; isplitr; · ipureintro; exact hfs
        iexact H)
    (by rw [hpay2]; unfold owns; iintro H; iexists _; isplitr
        · ipureintro; exact (View.read_write_univ (v := dst.view) fd _).trans hfs
        iexact H)) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitl [Hc]; · iexact Hc
  iexists W
  iexact HO

/-- A wait for the one duty of a DMA cell, whatever the memrefs it names, for the credit they count. -/
theorem op_wait {α : Type} {Q : α → sProp 𝕄} (c : Dev nD) (n N lvl : ℕ) {sp sp' : Space} {s s' : Shape} {e e' : EltTy} {P : sProp 𝕄}
    {q q' : DmaSem sig} {src : Memref sig .tc sp' s' e'} {dst : Memref sig .tc sp s e} {hs : src.view.WordExact} {hd : dst.view.WordExact}
    {k : PUnit → Prog (TpuEff nD τ sig (Elt F) Λ₀ .tc) α}
    (hq : q' = q) (h2 : 2 ≤ q.val) (h3 : q.val < 32) (hN : dst.view.dmaCredit = N)
    (hdut : (Rd (F := F) m).duties (dcell c q) 0 = {0}) (hamt : (Rd (F := F) m).amount (dcell c q) 0 0 = N)
    (hpay : (Rd (F := F) m).payload (dcell c q) 0 0 = P)
    (hlv : ∀ x ∈ obl c n, x.1.1.2 = .tc ∧ lvl < lv x.1 ()) (hlq : lv (dcell c q) () ≤ lvl) :
    PC m K ⊢ iprop(Ow c n -∗ cred (tallyAt (dcell c q) () N) -∗ atPos ER (dcell c q) 0 ∅ 0
      -∗ ((Ow c n ∗ P ∗ atPos ER (dcell c q) 1 ∅ 0) -∗ WP c (k ⟨⟩) Q)
      -∗ WP c (.op (.waitDma2 q' src dst hs hd) k) Q) := by
  subst hq hN
  unfold Ow
  iintro #HP ⟨%W, HO⟩ Hc Ha Hk
  ihave HI := (pc_dma m K c q' h2 h3) $$ HP
  icases HI with ⟨%κ, #HI, #HR⟩
  iapply (Rounds.wp_wait_rest_token 𝒱₀ ER (Rd m) (c : Thread nD τ) none (κ := κ)
      (wpE_waitDma2_eq 𝒱₀ (c : Thread nD τ) none Set.univ) (Set.mem_univ _) () (O := owedL (obl c n)) (W := W) (R := 0) (m := 0) (T := ∅)
      (by rw [Nat.zero_add, expect_one m hdut hamt])) $$ [Hc HO Ha]
  · isplitr; · iexact HI
    isplitl [Hc]; · iexact Hc
    isplitl [HO]; · iexact HO
    isplitr
    · iapply (mayWait_obl lvl c (.dma q') hlv hlq); iapply (pc_lev m K); iexact HP
    iexact Ha
  iintro ⟨HO, Ha, -, Hpay⟩
  ihave Hp := (Entails.of_eq (rest_one m hdut hpay)) $$ Hpay
  iapply Hk
  isplitl [HO]
  · iexists _; iexact HO
  isplitl [Hp]; · iexact Hp
  iexact Ha

end Ops

end Cert.Exchange

end
-- ==== Proof.Ops2.lean ====
/-
The body's operations at the ring's places: sending a block and a maximum, the four kinds of wait, the copies of
the weights into their two slots, and the loads and stores of the buffers.
-/
module

public import proofs.«01_k».proof.Proof.Ops

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Replacing a rectangle's values by themselves changes nothing. -/
theorem overlay_self {sh : Shape} {α : Type} (r : Rect sh) (X : sh.Idx → α) : (r.overlay X fun j => X (r.emb j)) = X := by
  funext i
  by_cases h : i ∈ r.set
  · obtain ⟨j, rfl⟩ := r.exists_idx_of_mem h
    exact Rect.overlay_emb _ _ _ j
  · exact Rect.overlay_of_not_mem _ _ _ h

section Ops

variable (m : (ℓ : Loc nD τ sig) → Buf (Elt F) ℓ) (K : Dev nD × Fin 31 → ℕ)

theorem pe_ne (c : Dev nD) (j : Fin 7) : c ≠ pe c (j.val + 1) := by revert c j; decide
theorem og_ne (c : Dev nD) (j : Fin 7) : og c (j.val + 1) ≠ c := by revert c j; decide

/-- Sending the `j`-th block. -/
theorem op_send {α : Type} {Q : α → sProp 𝕄} (c : Dev nD) (j : Fin 7) (a : ℕ) (ha : a = j.val + 1) (n : ℕ) (hn : n = 7 + j.val) {p : Dev nD}
    {src dst : Memref sig .tc .vmem S512x512 .bf16} {s1 s2 : DmaSem sig} {hsc : dst.view.ref.isScScratch = false}
    {hs : src.view.WordExact} {hd : dst.view.WordExact} {hsem : DmaTarget.Typed (nD := nD) (τ := τ) .vmem (.dma s2) (.remote (Dev.tc p) dst (.dma s1) hsc)}
    {k : PUnit → Prog (TpuEff nD τ sig (Elt F) Λ₀ .tc) α}
    (hp : p = pe c (a)) (hsrc : src = xrow (pe c (a))) (hdst : dst = slot c) (h1 : s1 = sSem j) (h2 : s2 = rSem c)
    (hl : obl c (n) = (dcell (pe c (a)) (rSem c), Nx) :: obl c (n + 1)) :
    PC m K ⊢ iprop(Ow c (n) -∗ owns (c : Thread nD τ) (xrow (pe c (a))) fullShare (xb m c (pe c (a)))
      -∗ (∃ X, owns (pe c (a) : Thread nD τ) (slot c) fullShare X)
      -∗ dutyTok ER (dcell c (sSem j)) 0 0 -∗ dutyTok ER (dcell (pe c (a)) (rSem c)) 0 0
      -∗ ((cred (tallyAt (dcell c (sSem j)) () Nx) ∗ Ow c (n + 1)) -∗ WP c (k ⟨⟩) Q)
      -∗ WP c (.op (.enqueueDma src (.remote (Dev.tc p) dst (.dma s1) hsc) (.dma s2) hs hd hsem) k) Q) := by
  subst ha; subst hn
  subst hp hsrc hdst h1 h2
  exact op_remote m K c _ _ Nx fullShare (xb m c (pe c (j.val + 1))) rfl (by simp only [sSem]; omega) (by simp only [sSem]; omega)
    (by simp only [rSem]; omega) (by have := c.isLt; have : nD = 8 := rfl; simp only [rSem]; omega)
    (dut_s m c j) (dut_r m _ _ (pe_ne c j)) (amt_s m c j 0) (amt_r m _ c 0) (pay_s m c j 0) (pay_r m _ c 0) hl

/-- Sending the `j`-th maximum. -/
theorem op_tsend {α : Type} {Q : α → sProp 𝕄} (c : Dev nD) (j : Fin 7) (a : ℕ) (ha : a = j.val + 1) (n : ℕ) (hn : n = 14 + j.val) (b : ℕ) (hb : b = j.val) {p : Dev nD}
    {src dst : Memref sig .tc .vmem S1x128 .f32} {s1 s2 : DmaSem sig} {hsc : dst.view.ref.isScScratch = false}
    {hs : src.view.WordExact} {hd : dst.view.WordExact} {hsem : DmaTarget.Typed (nD := nD) (τ := τ) .vmem (.dma s2) (.remote (Dev.tc p) dst (.dma s1) hsc)}
    {k : PUnit → Prog (TpuEff nD τ sig (Elt F) Λ₀ .tc) α}
    (hp : p = pe c (a)) (hsrc : src = arow c) (hdst : dst = arow c) (h1 : s1 = tSem j) (h2 : s2 = zSem c)
    (hl : obl c (n) = (dcell (pe c (a)) (zSem c), Na) :: obl c (n + 1)) :
    PC m K ⊢ iprop(Ow c (n) -∗ owns (c : Thread nD τ) (arow c) (rsh b) (am m c)
      -∗ (∃ X, owns (pe c (a) : Thread nD τ) (arow c) fullShare X)
      -∗ dutyTok ER (dcell c (tSem j)) 0 0 -∗ dutyTok ER (dcell (pe c (a)) (zSem c)) 0 0
      -∗ ((cred (tallyAt (dcell c (tSem j)) () Na) ∗ Ow c (n + 1) ∗ owns (c : Thread nD τ) (arow c) (rsh (a)) (am m c)) -∗ WP c (k ⟨⟩) Q)
      -∗ WP c (.op (.enqueueDma src (.remote (Dev.tc p) dst (.dma s1) hsc) (.dma s2) hs hd hsem) k) Q) := by
  subst ha; subst hn; subst hb
  subst hp hsrc h1 h2
  subst hdst
  iintro #HP HO Hx Hd Ht1 Ht2 Hk
  ihave Hx' := (owns_halves (c := (c : Thread nD τ)) (m := arow c) (q := rsh j.val) (am m c)).1 $$ Hx
  icases Hx' with ⟨Hx, Hx2⟩
  iapply (op_remote m K c (pe c (j.val + 1)) (14 + j.val) Na (rsh j.val).left (am m c) (src := arow c) (dst := arow c) rfl
    (by simp only [tSem]; omega) (by simp only [tSem]; omega)
    (by simp only [zSem]; omega) (by have := c.isLt; have : nD = 8 := rfl; simp only [zSem]; omega)
    (dut_t m c j) (dut_z m _ _ (pe_ne c j)) (amt_t m c j 0) (amt_z m _ c 0) (pay_t m c j 0) (pay_z m _ c 0) hl) $$ HP HO Hx Hd Ht1 Ht2
  iintro ⟨Hc, HO⟩
  iapply Hk
  isplitl [Hc]; · iexact Hc
  isplitl [HO]; · iexact HO
  iexact Hx2

/-- The wait for the block of the device `j + 1` places before. -/
theorem op_rwait {α : Type} {Q : α → sProp 𝕄} (c : Dev nD) (j : Fin 7) (a : ℕ) (ha : a = j.val + 1) {sp' : Space} {s' : Shape} {e' : EltTy}
    {src : Memref sig .tc sp' s' e'} {dst : Memref sig .tc .vmem S512x512 .bf16} {q : DmaSem sig} {hs : src.view.WordExact} {hd : dst.view.WordExact}
    {k : PUnit → Prog (TpuEff nD τ sig (Elt F) Λ₀ .tc) α} (hq : q = rSem (og c (a))) (hdst : dst = slot (og c (a))) :
    PC m K ⊢ iprop(Ow c 14 -∗ cred (tallyAt (dcell c (rSem (og c (a)))) () Nx) -∗ atPos ER (dcell c (rSem (og c (a)))) 0 ∅ 0
      -∗ ((Ow c 14 ∗ owns (c : Thread nD τ) (slot (og c (a))) fullShare (xb m (og c (a)) c) ∗ atPos ER (dcell c (rSem (og c (a)))) 1 ∅ 0)
        -∗ WP c (k ⟨⟩) Q)
      -∗ WP c (.op (.waitDma2 q src dst hs hd) k) Q) := by
  subst ha
  subst hdst
  exact op_wait m K c 14 Nx 2 hq (by simp only [rSem]; omega) (by have := (og c (j.val + 1)).isLt; have : nD = 8 := rfl; simp only [rSem]; omega) rfl
    (dut_r m _ _ (og_ne c j)) (amt_r m c _ 0) (pay_r m c _ 0) (obl_lv14 c) (Nat.le_of_eq (lv_r c _))

theorem obl_lv21 (c : Dev nD) (n : ℕ) : ∀ x ∈ obl c 21, x.1.1.2 = .tc ∧ n < lv x.1 () := by
  intro x hx
  exact absurd hx (List.not_mem_nil (a := x))

/-- The wait for its maximum. -/
theorem op_zwait {α : Type} {Q : α → sProp 𝕄} (c : Dev nD) (j : Fin 7) (a : ℕ) (ha : a = j.val + 1) {sp' : Space} {s' : Shape} {e' : EltTy}
    {src : Memref sig .tc sp' s' e'} {dst : Memref sig .tc .vmem S1x128 .f32} {q : DmaSem sig} {hs : src.view.WordExact} {hd : dst.view.WordExact}
    {k : PUnit → Prog (TpuEff nD τ sig (Elt F) Λ₀ .tc) α} (hq : q = zSem (og c (a))) (hdst : dst = arow (og c (a))) :
    PC m K ⊢ iprop(Ow c 21 -∗ cred (tallyAt (dcell c (zSem (og c (a)))) () Na) -∗ atPos ER (dcell c (zSem (og c (a)))) 0 ∅ 0
      -∗ ((Ow c 21 ∗ owns (c : Thread nD τ) (arow (og c (a))) fullShare (am m (og c (a))) ∗ atPos ER (dcell c (zSem (og c (a)))) 1 ∅ 0)
        -∗ WP c (k ⟨⟩) Q)
      -∗ WP c (.op (.waitDma2 q src dst hs hd) k) Q) := by
  subst ha
  subst hdst
  exact op_wait m K c 21 Na 3 hq (by simp only [zSem]; omega) (by have := (og c (j.val + 1)).isLt; have : nD = 8 := rfl; simp only [zSem]; omega) rfl
    (dut_z m _ _ (og_ne c j)) (amt_z m c _ 0) (pay_z m c _ 0) (obl_lv21 c 3) (Nat.le_of_eq (lv_z c _))

/-- The wait for the `j`-th block sent: its rows back. -/
theorem op_swait {α : Type} {Q : α → sProp 𝕄} (c : Dev nD) (j : Fin 7) (a : ℕ) (ha : a = j.val + 1) {sp' : Space} {s' : Shape} {e' : EltTy}
    {src : Memref sig .tc sp' s' e'} {dst : Memref sig .tc .vmem S512x512 .bf16} {q : DmaSem sig} {hs : src.view.WordExact} {hd : dst.view.WordExact}
    {k : PUnit → Prog (TpuEff nD τ sig (Elt F) Λ₀ .tc) α} (hq : q = sSem j) {r : Fin 8} (hdst : dst = xrow r) :
    PC m K ⊢ iprop(Ow c 21 -∗ cred (tallyAt (dcell c (sSem j)) () Nx) -∗ atPos ER (dcell c (sSem j)) 0 ∅ 0
      -∗ ((Ow c 21 ∗ owns (c : Thread nD τ) (xrow (pe c (a))) fullShare (xb m c (pe c (a))) ∗ atPos ER (dcell c (sSem j)) 1 ∅ 0)
        -∗ WP c (k ⟨⟩) Q)
      -∗ WP c (.op (.waitDma2 q src dst hs hd) k) Q) := by
  subst ha
  subst hdst
  exact op_wait m K c 21 Nx 3 hq (by simp only [sSem]; omega) (by simp only [sSem]; omega) rfl
    (dut_s m c j) (amt_s m c j 0) (pay_s m c j 0) (obl_lv21 c 3)
    (by show (if (sSem j).val < 9 then 0 else _) ≤ 3; rw [if_pos (by simp only [sSem]; omega)]; omega)

/-- The wait for the `j`-th maximum sent: the share lent back. -/
theorem op_twait {α : Type} {Q : α → sProp 𝕄} (c : Dev nD) (j : Fin 7) (a : ℕ) (ha : a = j.val + 1) (b : ℕ) (hb : b = j.val) {sp' : Space} {s' : Shape} {e' : EltTy}
    {src : Memref sig .tc sp' s' e'} {dst : Memref sig .tc .vmem S1x128 .f32} {q : DmaSem sig} {hs : src.view.WordExact} {hd : dst.view.WordExact}
    {k : PUnit → Prog (TpuEff nD τ sig (Elt F) Λ₀ .tc) α} (hq : q = tSem j) (hdst : dst = arow c) :
    PC m K ⊢ iprop(Ow c 21 -∗ cred (tallyAt (dcell c (tSem j)) () Na) -∗ atPos ER (dcell c (tSem j)) 0 ∅ 0
      -∗ ((Ow c 21 ∗ owns (c : Thread nD τ) (arow c) (rsh b).left (am m c) ∗ atPos ER (dcell c (tSem j)) 1 ∅ 0)
        -∗ WP c (k ⟨⟩) Q)
      -∗ WP c (.op (.waitDma2 q src dst hs hd) k) Q) := by
  subst ha; subst hb
  subst hdst
  exact op_wait m K c 21 Na 3 hq (by simp only [tSem]; omega) (by simp only [tSem]; omega) rfl
    (dut_t m c j) (amt_t m c j 0) (pay_t m c j 0) (obl_lv21 c 3)
    (by show (if (tSem j).val < 9 then 0 else if (tSem j).val < 17 then 2 else if (tSem j).val < 24 then 0 else _) ≤ 3
        rw [if_neg (by simp only [tSem]; omega), if_neg (by simp only [tSem]; omega), if_pos (by simp only [tSem]; omega)]; omega)

/-! ## The weights' copies -/

/-- The share of the weights the copies into slot `h` read. -/
def wsh (h : Fin 2) : PosShare TreeShare := if h = 0 then fullShare.left else fullShare.right

/-- Slot `h` and the share of the weights its copies read, no copy in flight; -/
def WIdle (c : Dev nD) (h : Fin 2) : sProp 𝕄 :=
  iprop(owns (c : Thread nD τ) wM (wsh h) (wall m c) ∗ (∃ X, owns (c : Thread nD τ) (wslot h) fullShare X) ∗ semVal (dcell c (wSem h)) 0)
/-- block `(r, h)` in flight; -/
def WFly (c : Dev nD) (h : Fin 2) (r : Fin 8) : sProp 𝕄 :=
  iprop(Transfers.Flight EC (c : Thread nD τ) (.dma (wSem h)) () Nw
      iprop(owns (c : Thread nD τ) (wslot h) fullShare (wb m c r h) ∗ owns (c : Thread nD τ) (wblk r h) (wsh h) (wb m c r h))
    ∗ ∃ f, ⌜(wM : Memref sig .tc .hbm S4096x8192 .f32).view.read (Elt F) f = wall m c⌝
        ∗ wM.view.loc (c : Thread nD τ) ↦[wM.view.set \ (wblk r h).view.set]{wsh h} f)
/-- the block landed. -/
def WHas (c : Dev nD) (h : Fin 2) (r : Fin 8) : sProp 𝕄 :=
  iprop(owns (c : Thread nD τ) wM (wsh h) (wall m c) ∗ owns (c : Thread nD τ) (wslot h) fullShare (wb m c r h) ∗ semVal (dcell c (wSem h)) 0)

theorem WHas_idle (c : Dev nD) (h : Fin 2) (r : Fin 8) : WHas m c h r ⊢ WIdle m c h := by
  unfold WHas WIdle
  iintro ⟨H1, H2, H3⟩
  isplitl [H1]; · iexact H1
  isplitl [H2]; · iexists _; iexact H2
  iexact H3

/-- A local copy between owned memrefs on an idle semaphore. -/
theorem op_local {α : Type} {Q : α → sProp 𝕄} (c : Dev nD) (N : ℕ) (hN0 : 0 < N) {sp sp' : Space} {sh : Shape} {e : EltTy} (share : PosShare TreeShare) (X : sh.Idx → Elt F e)
    {src : Memref sig .tc sp sh e} {dst : Memref sig .tc sp' sh e} {q : DmaSem sig}
    {hs : src.view.WordExact} {hd : dst.view.WordExact} {hsem : DmaTarget.Typed (nD := nD) (τ := τ) (p := .tc) sp (.dma q) (.here dst)}
    {k : PUnit → Prog (TpuEff nD τ sig (Elt F) Λ₀ .tc) α} (hN : dst.view.amount (.dma q) = N) :
    iprop(owns (c : Thread nD τ) src share X ∗ (∃ Y, owns (c : Thread nD τ) dst fullShare Y) ∗ semVal (dcell c q) 0)
      ⊢ iprop((Transfers.Flight EC (c : Thread nD τ) (.dma q) () N iprop(owns (c : Thread nD τ) dst fullShare X ∗ owns (c : Thread nD τ) src share X)
          -∗ WP c (k ⟨⟩) Q)
        -∗ WP c (.op (.enqueueDma src (.here dst) (.dma q) hs hd hsem) k) Q) := by
  iintro ⟨Hs, ⟨%Y, Hd⟩, Hv⟩ Hk
  ihave Hs' := (show (owns (c : Thread nD τ) src share X : sProp 𝕄) ⊢ iprop(∃ f, ⌜src.view.read (Elt F) f = X⌝ ∗ src.view.loc (c : Thread nD τ) ↦[src.view.set]{share} f) from .rfl) $$ Hs
  ihave Hd' := (show (owns (c : Thread nD τ) dst fullShare Y : sProp 𝕄) ⊢ iprop(∃ f, ⌜dst.view.read (Elt F) f = Y⌝ ∗ dst.view.loc (c : Thread nD τ) ↦[dst.view.set]{fullShare} f) from .rfl) $$ Hd
  icases Hs' with ⟨%fs, %hfs, Hs⟩
  icases Hd' with ⟨%fd, %hfd, Hd⟩
  iapply (Transfers.wp_dmaLocal EC 𝒱₀ (c : Thread nD τ) none (src := src) (dst := dst) (sm := .dma q) (q := share) (fs := fs) (Sd := dst.view.set) (fd := fd) () N hN hN0
    (Finset.Subset.refl _)) $$ [Hs Hd Hv]
  · isplitl [Hs]; · iexact Hs
    isplitl [Hd]; · iexact Hd
    iexact Hv
  iintro HF
  iapply Hk
  iapply (Transfers.Flight_mono EC (c : Thread nD τ) (show iprop((dst.view.loc (c : Thread nD τ) ↦[dst.view.set]{fullShare} (dst.view.write (Elt F) fd ((ReadAs.same : ReadAs (Elt F) sh e sh e).apply (src.view.read (Elt F) fs)) Finset.univ))
      ∗ (src.view.loc (c : Thread nD τ) ↦[src.view.set]{share} fs)) ⊢ (iprop(owns (c : Thread nD τ) dst fullShare X ∗ owns (c : Thread nD τ) src share X) : sProp 𝕄) from by
    unfold owns
    iintro ⟨H1, H2⟩
    isplitl [H1]
    · iexists _; isplitr
      · ipureintro; exact (View.read_write_univ (v := dst.view) fd _).trans hfs
      iexact H1
    iexists fs; isplitr; · ipureintro; exact hfs
    iexact H2))
  iexact HF

/-- Starting the copy of block `(r, h)` into slot `h`; -/
theorem op_wstart {α : Type} {Q : α → sProp 𝕄} (c : Dev nD) (h : Fin 2) (r : Fin 8)
    {src : Memref sig .tc .hbm S512x4096 .f32} {dst : Memref sig .tc .vmem S512x4096 .f32} {q : DmaSem sig}
    {hs : src.view.WordExact} {hd : dst.view.WordExact} {hsem : DmaTarget.Typed (nD := nD) (τ := τ) (p := .tc) .hbm (.dma q) (.here dst)}
    {k : PUnit → Prog (TpuEff nD τ sig (Elt F) Λ₀ .tc) α} (hq : q = wSem h) (hsrc : src = wblk r h) (hdst : dst = wslot h) :
    WIdle m c h ⊢ iprop((WFly m c h r -∗ WP c (k ⟨⟩) Q) -∗ WP c (.op (.enqueueDma src (.here dst) (.dma q) hs hd hsem) k) Q) := by
  subst hq hsrc hdst
  unfold WIdle
  iintro ⟨Hw, Hs, Hv⟩ Hk
  ihave Hw' := (owns_slice_split (c : Thread nD τ) wM (wsh h) (wR r h) (fun _ => rfl) (wall m c)) $$ Hw
  icases Hw' with ⟨Hb, Hr⟩
  iapply (op_local c Nw Nw_pos (wsh h) (wb m c r h) (src := wblk r h) (dst := wslot h) (q := wSem h) rfl) $$ [Hb Hs Hv]
  · isplitl [Hb]; · iexact Hb
    isplitl [Hs]; · iexact Hs
    iexact Hv
  iintro HF
  iapply Hk
  unfold WFly
  isplitl [HF]; · iexact HF
  iexact Hr

/-- and its wait. -/
theorem op_wwait {α : Type} {Q : α → sProp 𝕄} (c : Dev nD) (n : ℕ) (h : Fin 2) (r : Fin 8) {sp' : Space} {s' : Shape} {e' : EltTy}
    {src : Memref sig .tc sp' s' e'} {dst : Memref sig .tc .vmem S512x4096 .f32} {q : DmaSem sig} {hs : src.view.WordExact} {hd : dst.view.WordExact}
    {k : PUnit → Prog (TpuEff nD τ sig (Elt F) Λ₀ .tc) α} (hq : q = wSem h) (hdst : dst = wslot h) :
    PC m K ⊢ iprop(Ow c 14 -∗ WFly m c h r -∗ ((Ow c 14 ∗ WHas m c h r) -∗ WP c (k ⟨⟩) Q)
      -∗ WP c (.op (.waitDma2 q src dst hs hd) k) Q) := by
  subst hq hdst
  unfold Ow WFly
  iintro #HP ⟨%W, HO⟩ ⟨HF, ⟨%f, %hf, Hr⟩⟩ Hk
  iapply (Transfers.wp_waitLocalO EC 𝒱₀ (c : Thread nD τ) none () (N := Nw) (rfl : (wslot h).view.dmaCredit = Nw) (O := owedL (obl c 14)) (W := W)) $$ [HF HO]
  · isplitl [HF]; · iexact HF
    isplitl [HO]; · iexact HO
    iapply (mayWait_obl 2 c (.dma (wSem h)) (obl_lv14 c) (by
      have := h.isLt
      have h0 : (wSem h).val = 32 + h.val := rfl
      show (if (wSem h).val < 9 then 0 else if (wSem h).val < 17 then 2 else if (wSem h).val < 24 then 0 else if (wSem h).val < 32 then 3 else 0) ≤ 2
      rw [if_neg (by omega), if_neg (by omega), if_neg (by omega), if_neg (by omega)]; omega))
    iapply (pc_lev m K); iexact HP
  iintro ⟨⟨Hs, Hb⟩, Hv, HO⟩
  iapply Hk
  isplitl [HO]
  · iexists _; iexact HO
  unfold WHas
  isplitl [Hb Hr]
  · ihave H' := (owns_slice_join (c : Thread nD τ) wM (wsh h) (wR r h) (fun _ => rfl) (wb m c r h) f) $$ [Hb Hr]
    · isplitl [Hb]; · iexact Hb
      iexact Hr
    rw [hf, show (wR r h).overlay (wall m c) (wb m c r h) = wall m c from overlay_self _ _]
    iexact H'
  isplitl [Hs]; · iexact Hs
  iexact Hv

end Ops

end Cert.Exchange

end
-- ==== Proof.Ops3.lean ====
/-
Loads and stores of the kernel's buffers at the ring's places, and what its payload values are of what they read.
-/
module

public import proofs.«01_k».proof.Proof.Ops2

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Mem

/-- A block as the one slot of a landing buffer it fills, -/
def upX (X : Vec F S512x512 .bf16) : Vec F S1x512x512 .bf16 := shapeCast S1x512x512 X shapeCasts_S512x512_S1x512x512
omit [FloatOps F] in
theorem numX : S1x512x512.numel = S512x512.numel := by decide
omit [FloatOps F] in
theorem numW : S1x512x4096.numel = S512x4096.numel := by decide
/-- a weights block as the slot it fills. -/
def upW (W : Vec F S512x4096 .f32) : Vec F S1x512x4096 .f32 := fun i => W (Shape.reshapeEquiv numW i)

theorem wret {α : Type} {Q : α → sProp 𝕄} (c : Dev nD) (a : α) : (Q a : sProp 𝕄) ⊢ WP c (.ret a) Q := by
  unfold WP
  rw [wp_ret]
  iintro H
  imodintro
  iexact H
theorem barPay_eq (c d : Dev nD) : (barPay c d : sProp 𝕄)
    = iprop((∃ X, owns (d : Thread nD τ) (slot c) fullShare X) ∗ (∃ X, owns (d : Thread nD τ) (arow c) fullShare X)) := rfl
omit [FloatOps F] in
theorem cast_cast {α : Type} {s s' : Shape} (h : s.ShapeCasts s') (h' : s'.ShapeCasts s) (X : s.Idx → α) : shapeCast s (shapeCast s' X h) h' = X := by
  funext i
  show X (Shape.reshapeEquiv _ (Shape.reshapeEquiv _ i)) = X i
  rw [Shape.reshapeEquiv_reshapeEquiv, Shape.reshapeEquiv_self]
omit [FloatOps F] in
theorem cast_self {α : Type} {s : Shape} (h : s.ShapeCasts s) (X : s.Idx → α) : shapeCast s X h = X := by
  funext i
  show X (Shape.reshapeEquiv _ i) = X i
  rw [Shape.reshapeEquiv_self]
theorem cast_upX (X : Vec F S512x512 .bf16) : shapeCast S512x512 (upX X) shapeCasts_S1x512x512_S512x512 = X := cast_cast _ _ X
theorem cast_upW (W : Vec F S512x4096 .f32) : shapeCast S512x4096 (upW W) shapeCasts_S1x512x4096_S512x4096 = W := by
  funext i
  show W (Shape.reshapeEquiv _ (Shape.reshapeEquiv _ i)) = W i
  rw [Shape.reshapeEquiv_reshapeEquiv, Shape.reshapeEquiv_self]

variable (c : Dev nD)

theorem ld_slot {α : Type} {Q : α → sProp 𝕄} (s : Fin 8) {off : Fin 3 → Nat} {inb : ∀ a, off a + S1x512x512.size a ≤ S8x512x512.size a}
    {hl : rM.view.LoadsAt (Rect.unit (s := S8x512x512) off S1x512x512.size inb).toLoadRect}
    {k : Vec F S1x512x512 .bf16 → Prog (TpuEff nD τ sig (Elt F) Λ₀ .tc) α} (X : Vec F S512x512 .bf16) (h : off = ![s.val, 0, 0]) :
    (owns (c : Thread nD τ) (slot s) fullShare X : sProp 𝕄)
      ⊢ iprop((owns (c : Thread nD τ) (slot s) fullShare X -∗ WP c (k (upX X)) Q)
        -∗ WP c (.op (.load rM (Rect.unit (s := S8x512x512) off S1x512x512.size inb).toLoadRect hl) k) Q) := by
  subst h
  rw [owns_sq c (rM.slice (sR s) (fun _ => rfl)) S512x512 squeezes_S1x512x512_S512x512 numX fullShare X]
  exact ld_slice c rM (sR s) (fun _ => rfl) fullShare (upX X)

theorem st_slot {α : Type} {Q : α → sProp 𝕄} (s : Fin 8) {off : Fin 3 → Nat} {inb : ∀ a, off a + S1x512x512.size a ≤ S8x512x512.size a}
    {w : Vec F S1x512x512 .bf16} {hx} {hm}
    {k : PUnit → Prog (TpuEff nD τ sig (Elt F) Λ₀ .tc) α} (X Y : Vec F S512x512 .bf16) (h : off = ![s.val, 0, 0]) (hw : w = upX Y) :
    (owns (c : Thread nD τ) (slot s) fullShare X : sProp 𝕄)
      ⊢ iprop((owns (c : Thread nD τ) (slot s) fullShare Y -∗ WP c (k ⟨⟩) Q)
        -∗ WP c (.op (.store rM (Rect.unit (s := S8x512x512) off S1x512x512.size inb) w Finset.univ hx hm) k) Q) := by
  subst h hw
  rw [owns_sq c (rM.slice (sR s) (fun _ => rfl)) S512x512 squeezes_S1x512x512_S512x512 numX fullShare X,
    owns_sq c (rM.slice (sR s) (fun _ => rfl)) S512x512 squeezes_S1x512x512_S512x512 numX fullShare Y]
  exact st_slice c rM (sR s) (fun _ => rfl) (upX X)

theorem ld_wslot {α : Type} {Q : α → sProp 𝕄} (s : Fin 2) {off : Fin 3 → Nat} {inb : ∀ a, off a + S1x512x4096.size a ≤ S2x512x4096.size a}
    {hl : bM.view.LoadsAt (Rect.unit (s := S2x512x4096) off S1x512x4096.size inb).toLoadRect}
    {k : Vec F S1x512x4096 .f32 → Prog (TpuEff nD τ sig (Elt F) Λ₀ .tc) α} (X : Vec F S512x4096 .f32) (h : off = ![s.val, 0, 0]) :
    (owns (c : Thread nD τ) (wslot s) fullShare X : sProp 𝕄)
      ⊢ iprop((owns (c : Thread nD τ) (wslot s) fullShare X -∗ WP c (k (upW X)) Q)
        -∗ WP c (.op (.load bM (Rect.unit (s := S2x512x4096) off S1x512x4096.size inb).toLoadRect hl) k) Q) := by
  subst h
  rw [owns_sq c (bM.slice (bR s) (fun _ => rfl)) S512x4096 squeezes_S1x512x4096_S512x4096 numW fullShare X]
  exact ld_slice c bM (bR s) (fun _ => rfl) fullShare (upW X)

/-- Loading the slot of the weights a landed copy filled: the slot is free for the next. -/
theorem ld_has {α : Type} {Q : α → sProp 𝕄} (m : (ℓ : Loc nD τ sig) → Buf (Elt F) ℓ) (s : Fin 2) (r : Fin 8) {off : Fin 3 → Nat} {inb : ∀ a, off a + S1x512x4096.size a ≤ S2x512x4096.size a}
    {hl : bM.view.LoadsAt (Rect.unit (s := S2x512x4096) off S1x512x4096.size inb).toLoadRect}
    {k : Vec F S1x512x4096 .f32 → Prog (TpuEff nD τ sig (Elt F) Λ₀ .tc) α} (h : off = ![s.val, 0, 0]) :
    WHas m c s r
      ⊢ iprop((WIdle m c s -∗ WP c (k (upW (wb m c r s))) Q)
        -∗ WP c (.op (.load bM (Rect.unit (s := S2x512x4096) off S1x512x4096.size inb).toLoadRect hl) k) Q) := by
  unfold WHas WIdle
  iintro ⟨H1, H2, H3⟩ Hk
  iapply (ld_wslot c s (wb m c r s) h) $$ H2
  iintro H2
  iapply Hk
  isplitl [H1]; · iexact H1
  isplitl [H2]; · iexists _; iexact H2
  iexact H3

theorem ld_xrow {α : Type} {Q : α → sProp 𝕄} (r : Fin 8) {off : Fin 2 → Nat} {inb : ∀ a, off a + S512x512.size a ≤ S4096x512.size a}
    {hl : xM.view.LoadsAt (Rect.unit (s := S4096x512) off S512x512.size inb).toLoadRect}
    {k : Vec F S512x512 .bf16 → Prog (TpuEff nD τ sig (Elt F) Λ₀ .tc) α} (X : Vec F S512x512 .bf16) (h : off = ![r.val * 512, 0]) :
    (owns (c : Thread nD τ) (xrow r) fullShare X : sProp 𝕄)
      ⊢ iprop((owns (c : Thread nD τ) (xrow r) fullShare X -∗ WP c (k X) Q)
        -∗ WP c (.op (.load xM (Rect.unit (s := S4096x512) off S512x512.size inb).toLoadRect hl) k) Q) := by
  subst h
  exact ld_slice c xM (xR r) (fun _ => rfl) fullShare X

theorem ld_arow {α : Type} {Q : α → sProp 𝕄} (s : Fin 8) {off : Fin 2 → Nat} {inb : ∀ a, off a + S1x128.size a ≤ S8x128.size a}
    {hl : aM.view.LoadsAt (Rect.unit (s := S8x128) off S1x128.size inb).toLoadRect}
    {k : Vec F S1x128 .f32 → Prog (TpuEff nD τ sig (Elt F) Λ₀ .tc) α} (X : Vec F S1x128 .f32) (h : off = ![s.val, 0]) :
    (owns (c : Thread nD τ) (arow s) fullShare X : sProp 𝕄)
      ⊢ iprop((owns (c : Thread nD τ) (arow s) fullShare X -∗ WP c (k X) Q)
        -∗ WP c (.op (.load aM (Rect.unit (s := S8x128) off S1x128.size inb).toLoadRect hl) k) Q) := by
  subst h
  exact ld_slice c aM (aR s) (fun _ => rfl) fullShare X

theorem st_arow {α : Type} {Q : α → sProp 𝕄} (s : Fin 8) {off : Fin 2 → Nat} {inb : ∀ a, off a + S1x128.size a ≤ S8x128.size a}
    {w : Vec F S1x128 .f32} {hx} {hm}
    {k : PUnit → Prog (TpuEff nD τ sig (Elt F) Λ₀ .tc) α} (X : Vec F S1x128 .f32) (h : off = ![s.val, 0]) :
    (owns (c : Thread nD τ) (arow s) fullShare X : sProp 𝕄)
      ⊢ iprop((owns (c : Thread nD τ) (arow s) fullShare w -∗ WP c (k ⟨⟩) Q)
        -∗ WP c (.op (.store aM (Rect.unit (s := S8x128) off S1x128.size inb) w Finset.univ hx hm) k) Q) := by
  subst h
  exact st_slice c aM (aR s) (fun _ => rfl) X

/-! The result block, by halves and whole. -/

theorem ld_o0 {α : Type} {Q : α → sProp 𝕄} {inb} {hl : oM.view.LoadsAt (Rect.unit (s := S512x8192) ![0, 0] S512x4096.size inb).toLoadRect}
    {k : Vec F S512x4096 .f32 → Prog (TpuEff nD τ sig (Elt F) Λ₀ .tc) α} (A B : Vec F S512x4096 .f32) :
    (owns (c : Thread nD τ) oM fullShare (joinH A B) : sProp 𝕄)
      ⊢ iprop((owns (c : Thread nD τ) oM fullShare (joinH A B) -∗ WP c (k A) Q)
        -∗ WP c (.op (.load oM (Rect.unit (s := S512x8192) ![0, 0] S512x4096.size inb).toLoadRect hl) k) Q) := by
  have h := ld_sub (Q := Q) c oM (oR 0) (hl := hl) (k := k) fullShare (joinH A B)
  rw [joinH_zero] at h
  exact h
theorem ld_o1 {α : Type} {Q : α → sProp 𝕄} {inb} {hl : oM.view.LoadsAt (Rect.unit (s := S512x8192) ![0, 4096] S512x4096.size inb).toLoadRect}
    {k : Vec F S512x4096 .f32 → Prog (TpuEff nD τ sig (Elt F) Λ₀ .tc) α} (A B : Vec F S512x4096 .f32) :
    (owns (c : Thread nD τ) oM fullShare (joinH A B) : sProp 𝕄)
      ⊢ iprop((owns (c : Thread nD τ) oM fullShare (joinH A B) -∗ WP c (k B) Q)
        -∗ WP c (.op (.load oM (Rect.unit (s := S512x8192) ![0, 4096] S512x4096.size inb).toLoadRect hl) k) Q) := by
  have h := ld_sub (Q := Q) c oM (oR 1) (hl := hl) (k := k) fullShare (joinH A B)
  rw [joinH_one] at h
  exact h
variable [∀ e, Nonempty (Elt F e)]
theorem st_o0 {α : Type} {Q : α → sProp 𝕄} {inb} {w : Vec F S512x4096 .f32}
    {hx : (oM.access (Rect.unit (s := S512x8192) ![0, 0] S512x4096.size inb)).Stores Finset.univ} {hm}
    {k : PUnit → Prog (TpuEff nD τ sig (Elt F) Λ₀ .tc) α} (A B V : Vec F S512x4096 .f32) (hw : w = V) :
    (owns (c : Thread nD τ) oM fullShare (joinH A B) : sProp 𝕄)
      ⊢ iprop((owns (c : Thread nD τ) oM fullShare (joinH V B) -∗ WP c (k ⟨⟩) Q)
        -∗ WP c (.op (.store oM (Rect.unit (s := S512x8192) ![0, 0] S512x4096.size inb) w Finset.univ hx hm) k) Q) := by
  subst hw
  have h := st_sub (Q := Q) c oM (oR 0) (fun _ => rfl) (w := w) (hx := hx) (hm := hm) (k := k) (joinH A B)
  rw [overlay_zero] at h
  exact h
theorem st_o1 {α : Type} {Q : α → sProp 𝕄} {inb} {w : Vec F S512x4096 .f32}
    {hx : (oM.access (Rect.unit (s := S512x8192) ![0, 4096] S512x4096.size inb)).Stores Finset.univ} {hm}
    {k : PUnit → Prog (TpuEff nD τ sig (Elt F) Λ₀ .tc) α} (A B V : Vec F S512x4096 .f32) (hw : w = V) :
    (owns (c : Thread nD τ) oM fullShare (joinH A B) : sProp 𝕄)
      ⊢ iprop((owns (c : Thread nD τ) oM fullShare (joinH A V) -∗ WP c (k ⟨⟩) Q)
        -∗ WP c (.op (.store oM (Rect.unit (s := S512x8192) ![0, 4096] S512x4096.size inb) w Finset.univ hx hm) k) Q) := by
  subst hw
  have h := st_sub (Q := Q) c oM (oR 1) (fun _ => rfl) (w := w) (hx := hx) (hm := hm) (k := k) (joinH A B)
  rw [overlay_one] at h
  exact h

theorem zero_off : ∀ a : Fin 2, (![0, 0] : Fin 2 → Nat) a = 0 := by decide
theorem emb_all {sh : Shape} {off : Fin sh.rank → Nat} {inb : ∀ a, off a + sh.size a ≤ sh.size a} (h : ∀ a, off a = 0) (j : sh.Idx) : (Rect.unit (s := sh) off sh.size inb).emb j = j := by
  funext a; apply Fin.ext
  simp [Rect.emb_apply, h a]

theorem overlay_all {sh : Shape} {β : Type} {off : Fin sh.rank → Nat} {inb : ∀ a, off a + sh.size a ≤ sh.size a} (h : ∀ a, off a = 0) (X w : sh.Idx → β) :
    (Rect.unit (s := sh) off sh.size inb).overlay X w = w :=
  funext fun j => (congrArg ((Rect.unit (s := sh) off sh.size inb).overlay X w) (emb_all h j).symm).trans (Rect.overlay_emb (Rect.unit (s := sh) off sh.size inb) X w j)

theorem ld_o {α : Type} {Q : α → sProp 𝕄} {inb} {hl : oM.view.LoadsAt (Rect.unit (s := S512x8192) ![0, 0] S512x8192.size inb).toLoadRect}
    {k : Vec F S512x8192 .f32 → Prog (TpuEff nD τ sig (Elt F) Λ₀ .tc) α} (X : Vec F S512x8192 .f32) :
    (owns (c : Thread nD τ) oM fullShare X : sProp 𝕄)
      ⊢ iprop((owns (c : Thread nD τ) oM fullShare X -∗ WP c (k X) Q)
        -∗ WP c (.op (.load oM (Rect.unit (s := S512x8192) ![0, 0] S512x8192.size inb).toLoadRect hl) k) Q) := by
  have h := ld_sub (Q := Q) c oM (Rect.unit (s := S512x8192) ![0, 0] S512x8192.size inb) (hl := hl) (k := k) fullShare X
  rw [show (fun j => X ((Rect.unit (s := S512x8192) ![0, 0] S512x8192.size inb).emb j)) = X from
    funext fun j => congrArg X (emb_all zero_off j)] at h
  exact h
theorem st_o {α : Type} {Q : α → sProp 𝕄} {inb} {w : Vec F S512x8192 .f32}
    {hx : (oM.access (Rect.unit (s := S512x8192) ![0, 0] S512x8192.size inb)).Stores Finset.univ} {hm}
    {k : PUnit → Prog (TpuEff nD τ sig (Elt F) Λ₀ .tc) α} (X : Vec F S512x8192 .f32) :
    (owns (c : Thread nD τ) oM fullShare X : sProp 𝕄)
      ⊢ iprop((owns (c : Thread nD τ) oM fullShare w -∗ WP c (k ⟨⟩) Q)
        -∗ WP c (.op (.store oM (Rect.unit (s := S512x8192) ![0, 0] S512x8192.size inb) w Finset.univ hx hm) k) Q) := by
  have h := st_sub (Q := Q) c oM (Rect.unit (s := S512x8192) ![0, 0] S512x8192.size inb) (fun _ => rfl) (w := w) (hx := hx) (hm := hm) (k := k) X
  rw [overlay_all zero_off X w] at h
  exact h

theorem ld_a {α : Type} {Q : α → sProp 𝕄} {inb} {hl : aM.view.LoadsAt (Rect.unit (s := S8x128) ![0, 0] S8x128.size inb).toLoadRect}
    {k : Vec F S8x128 .f32 → Prog (TpuEff nD τ sig (Elt F) Λ₀ .tc) α} (q : PosShare TreeShare) (X : Vec F S8x128 .f32) :
    (owns (c : Thread nD τ) aM q X : sProp 𝕄)
      ⊢ iprop((owns (c : Thread nD τ) aM q X -∗ WP c (k X) Q)
        -∗ WP c (.op (.load aM (Rect.unit (s := S8x128) ![0, 0] S8x128.size inb).toLoadRect hl) k) Q) := by
  have h := ld_sub (Q := Q) c aM (Rect.unit (s := S8x128) ![0, 0] S8x128.size inb) (hl := hl) (k := k) q X
  rw [show (fun j => X ((Rect.unit (s := S8x128) ![0, 0] S8x128.size inb).emb j)) = X from
    funext fun j => congrArg X (emb_all zero_off j)] at h
  exact h

end Mem

/-! ## What the payloads are -/

section Pay

variable (X : Vec F S512x512 .bf16) (W A : Vec F S512x4096 .f32)

theorem pay1_eq : k0_pay1 X = X := cast_self _ X
theorem pay2_eq : k0_pay2 X = upX X := rfl

theorem first_pay {X' : Vec F S512x512 .bf16} {W' : FVec F S512x4096 .f32} (hX : X' = X) (hW : W' = W) :
    matmul dot_S512x512_S512x4096_S512x4096_1_0_0_1_n_n none X' (truncf .bf16 W' bitsLt_bf16_f32) (constant S512x4096 .f32 0x00000000#32) = mm X W := by
  subst hX hW; rfl
theorem next_pay {X' : Vec F S512x512 .bf16} {W' A' : FVec F S512x4096 .f32} (hX : X' = X) (hW : W' = W) (hA : A' = A) :
    addf A' (matmul dot_S512x512_S512x4096_S512x4096_1_0_0_1_n_n none X' (truncf .bf16 W' bitsLt_bf16_f32) (constant S512x4096 .f32 0x00000000#32)) = addf A (mm X W) := by
  subst hX hW hA; rfl

theorem pay3_eq : k0_pay3 (upW W) (upX X) = mm X W := first_pay X W (cast_upX X) (cast_upW W)
theorem pay5_eq : k0_pay5 (k0_pay4 (upW W)) (upX X) = mm X W := first_pay X W (cast_upX X) (cast_upW W)
theorem pay6_eq : k0_pay6 (upW W) (upX X) A = addf A (mm X W) := next_pay X W A (cast_upX X) (cast_upW W) (cast_self _ A)
theorem pay7_eq : k0_pay7 (upW W) (upX X) A = addf A (mm X W) := next_pay X W A (cast_upX X) (cast_upW W) (cast_self _ A)
theorem pay8_eq : k0_pay8 (upW W) (upX X) A = addf A (mm X W) := next_pay X W A (cast_upX X) (cast_upW W) (cast_self _ A)
theorem pay9_eq : k0_pay9 (upW W) (upX X) A = addf A (mm X W) := next_pay X W A (cast_upX X) (cast_upW W) (cast_self _ A)
theorem pay13_eq : k0_pay13 (upW W) (upX X) A = addf A (mm X W) := next_pay X W A (cast_upX X) (cast_upW W) (cast_self _ A)
theorem pay18_eq : k0_pay18 (upW W) (upX X) A = addf A (mm X W) := next_pay X W A (cast_upX X) (cast_upW W) (cast_self _ A)
theorem pay19_eq : k0_pay19 (upW W) (upX X) A = addf A (mm X W) := next_pay X W A (cast_upX X) (cast_upW W) (cast_self _ A)
theorem pay20_eq : k0_pay20 (upW W) (upX X) A = addf A (mm X W) := next_pay X W A (cast_upX X) (cast_upW W) (cast_self _ A)
theorem pay21_eq : k0_pay21 (upW W) (upX X) A = addf A (mm X W) := next_pay X W A (cast_upX X) (cast_upW W) (cast_self _ A)
theorem pay24_eq : k0_pay24 (upW W) (upX X) A = addf A (mm X W) := next_pay X W A (cast_upX X) (cast_upW W) (cast_self _ A)
theorem pay12_eq : k0_pay12 (k0_pay10 (upW W) (upX X)) (k0_pay11 A) = addf A (mm X W) := next_pay X W A (cast_upX X) (cast_upW W) (cast_self _ A)
theorem pay15_eq : k0_pay15 (k0_pay14 (upW W)) (upX X) A = addf A (mm X W) := next_pay X W A (cast_upX X) (cast_upW W) (cast_self _ A)
theorem pay17_eq : k0_pay17 (k0_pay16 (upW W)) (upX X) A = addf A (mm X W) := next_pay X W A (cast_upX X) (cast_upW W) (cast_self _ A)
theorem pay23_eq : k0_pay23 (k0_pay22 (upW W)) (upX X) A = addf A (mm X W) := next_pay X W A (cast_upX X) (cast_upW W) (cast_self _ A)

end Pay

end Cert.Exchange

end
-- ==== Proof.Rows.lean ====
/-
The buffers cut into the pieces the transfers move, and put together again.
-/
module

public import proofs.«01_k».proof.Proof.Ops3

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Rects

theorem xR_disj (s s' : Fin 8) (h : s ≠ s') : Disjoint (xR s).set (xR s').set := by
  rw [Finset.disjoint_left]
  intro i hi hi'
  have h1 : s.val * 512 ≤ (i 0).val ∧ (i 0).val < s.val * 512 + 512 := (Rect.mem_set_unit.mp hi) 0
  have h2 : s'.val * 512 ≤ (i 0).val ∧ (i 0).val < s'.val * 512 + 512 := (Rect.mem_set_unit.mp hi') 0
  exact h (Fin.ext (by omega))
theorem sR_disj (s s' : Fin 8) (h : s ≠ s') : Disjoint (sR s).set (sR s').set := by
  rw [Finset.disjoint_left]
  intro i hi hi'
  have h1 : s.val ≤ (i 0).val ∧ (i 0).val < s.val + 1 := (Rect.mem_set_unit.mp hi) 0
  have h2 : s'.val ≤ (i 0).val ∧ (i 0).val < s'.val + 1 := (Rect.mem_set_unit.mp hi') 0
  exact h (Fin.ext (by omega))
theorem aR_disj (s s' : Fin 8) (h : s ≠ s') : Disjoint (aR s).set (aR s').set := by
  rw [Finset.disjoint_left]
  intro i hi hi'
  have h1 : s.val ≤ (i 0).val ∧ (i 0).val < s.val + 1 := (Rect.mem_set_unit.mp hi) 0
  have h2 : s'.val ≤ (i 0).val ∧ (i 0).val < s'.val + 1 := (Rect.mem_set_unit.mp hi') 0
  exact h (Fin.ext (by omega))
theorem xR_cov : (Finset.univ.biUnion fun s => (xR s).set) = Finset.univ := by
  refine Finset.eq_univ_of_forall fun i => ?_
  have h0 : (i 0).val < 4096 := (i 0).isLt
  have h1 : (i 1).val < 512 := (i 1).isLt
  refine Finset.mem_biUnion.mpr ⟨(⟨(i 0).val / 512, by omega⟩ : Fin 8), Finset.mem_univ _, Rect.mem_set_unit.mpr fun a => ?_⟩
  match a with
  | 0 => exact ⟨show (i 0).val / 512 * 512 ≤ (i 0).val by omega, show (i 0).val < (i 0).val / 512 * 512 + 512 by omega⟩
  | 1 => exact ⟨Nat.zero_le _, show (i 1).val < 0 + 512 by omega⟩
theorem sR_cov : (Finset.univ.biUnion fun s => (sR s).set) = Finset.univ := by
  refine Finset.eq_univ_of_forall fun i => ?_
  have h1 : (i 1).val < 512 := (i 1).isLt
  have h2 : (i 2).val < 512 := (i 2).isLt
  refine Finset.mem_biUnion.mpr ⟨(⟨(i 0).val, (i 0).isLt⟩ : Fin 8), Finset.mem_univ _, Rect.mem_set_unit.mpr fun a => ?_⟩
  match a with
  | 0 => exact ⟨show (i 0).val ≤ (i 0).val by omega, show (i 0).val < (i 0).val + 1 by omega⟩
  | 1 => exact ⟨Nat.zero_le _, show (i 1).val < 0 + 512 by omega⟩
  | 2 => exact ⟨Nat.zero_le _, show (i 2).val < 0 + 512 by omega⟩
theorem aR_cov : (Finset.univ.biUnion fun s => (aR s).set) = Finset.univ := by
  refine Finset.eq_univ_of_forall fun i => ?_
  have h1 : (i 1).val < 128 := (i 1).isLt
  refine Finset.mem_biUnion.mpr ⟨(⟨(i 0).val, (i 0).isLt⟩ : Fin 8), Finset.mem_univ _, Rect.mem_set_unit.mpr fun a => ?_⟩
  match a with
  | 0 => exact ⟨show (i 0).val ≤ (i 0).val by omega, show (i 0).val < (i 0).val + 1 by omega⟩
  | 1 => exact ⟨Nat.zero_le _, show (i 1).val < 0 + 128 by omega⟩

/-- The two slots of the weights' double buffer. -/
theorem bR_disj (s s' : Fin 2) (h : s ≠ s') : Disjoint (bR s).set (bR s').set := by
  rw [Finset.disjoint_left]
  intro i hi hi'
  have h1 : s.val ≤ (i 0).val ∧ (i 0).val < s.val + 1 := (Rect.mem_set_unit.mp hi) 0
  have h2 : s'.val ≤ (i 0).val ∧ (i 0).val < s'.val + 1 := (Rect.mem_set_unit.mp hi') 0
  exact h (Fin.ext (by omega))
theorem bR_cov : (Finset.univ.biUnion fun s => (bR s).set) = Finset.univ := by
  refine Finset.eq_univ_of_forall fun i => ?_
  have h1 : (i 1).val < 512 := (i 1).isLt
  have h2 : (i 2).val < 4096 := (i 2).isLt
  refine Finset.mem_biUnion.mpr ⟨(⟨(i 0).val, (i 0).isLt⟩ : Fin 2), Finset.mem_univ _, Rect.mem_set_unit.mpr fun a => ?_⟩
  match a with
  | 0 => exact ⟨show (i 0).val ≤ (i 0).val by omega, show (i 0).val < (i 0).val + 1 by omega⟩
  | 1 => exact ⟨Nat.zero_le _, show (i 1).val < 0 + 512 by omega⟩
  | 2 => exact ⟨Nat.zero_le _, show (i 2).val < 0 + 4096 by omega⟩

end Rects

section Glue

omit [FloatOps F]
variable [∀ e, Nonempty (Elt F e)]

/-- Contents a buffer can be given by giving each of a family of disjoint pieces its own. -/
theorem glue_contents {sh : Shape} {α : Type} [hne : Nonempty α] {T : Type} (r : T → Rect sh) (hd : ∀ t t', t ≠ t' → Disjoint (r t).set (r t').set)
    (Y : (t : T) → (r t).shape.Idx → α) : ∃ X : sh.Idx → α, ∀ t, (fun j => X ((r t).emb j)) = Y t := by
  classical
  refine ⟨fun i => if h : ∃ t, ∃ j, (r t).emb j = i then Y h.choose h.choose_spec.choose else hne.some, fun t => funext fun j => ?_⟩
  have h : ∃ t', ∃ j', (r t').emb j' = (r t).emb j := ⟨t, j, rfl⟩
  show (if h : ∃ t', ∃ j', (r t').emb j' = (r t).emb j then Y h.choose h.choose_spec.choose else hne.some) = Y t j
  rw [dif_pos h]
  have e := h.choose_spec.choose_spec
  generalize h.choose_spec.choose = j' at e
  revert j' e
  generalize h.choose = t'
  intro j' e
  have ht : t' = t := by
    by_contra hne
    have h1 := (r t').idx_mem j'
    have h2 := (r t).idx_mem j
    have e' : (r t').idx j' = (r t).idx j := e
    rw [e'] at h1
    exact Finset.disjoint_left.mp (hd t' t hne) h1 h2
  subst ht
  exact congrArg _ ((r t').emb.injective e)

/-- The pieces of a buffer, each owned at some contents: the buffer, at some contents. -/
theorem owns_glue {sp : Space} {sh : Shape} {e : EltTy} (c : Dev nD) (m : Memref sig .tc sp sh e) (q : PosShare TreeShare) {T : Type} [Fintype T] [DecidableEq T] (r : T → Rect sh)
    (hr : ∀ t a, (r t).stride a = 1) (hd : ∀ t t', t ≠ t' → Disjoint (r t).set (r t').set) (hcov : (Finset.univ.biUnion fun t => (r t).set) = Finset.univ) :
    (bigSep Finset.univ (fun t => iprop(∃ Y, owns (c : Thread nD τ) (m.slice (r t) (hr t)) q Y)) : sProp 𝕄) ⊢ iprop(∃ X, owns (c : Thread nD τ) m q X) := by
  refine (bigSep_exists_pi Finset.univ (fun t Y => owns (c : Thread nD τ) (m.slice (r t) (hr t)) q Y)).trans ?_
  iintro ⟨%Y, H⟩
  obtain ⟨X, hX⟩ := glue_contents r hd Y
  iexists X
  iapply (owns_of_rects (c : Thread nD τ) m q r hr hd hcov X)
  have e : (fun t => (owns (c : Thread nD τ) (m.slice (r t) (hr t)) q (Y t) : sProp 𝕄)) = fun t => owns (c : Thread nD τ) (m.slice (r t) (hr t)) q (fun j => X ((r t).emb j)) :=
    funext fun t => by rw [hX t]
  iapply (Entails.of_eq (congrArg (bigSep Finset.univ) e))
  iexact H

end Glue

section Pieces

variable (m : (ℓ : Loc nD τ sig) → Buf (Elt F) ℓ) (c : Dev nD)

omit [FloatOps F] in
/-- A conjunction over the other devices, by their distance behind. -/
theorem bigSep_behind (Φ : Fin 8 → sProp 𝕄) :
    bigSep (Finset.univ.erase c) Φ = iprop(Φ (og c 1) ∗ Φ (og c 2) ∗ Φ (og c 3) ∗ Φ (og c 4) ∗ Φ (og c 5) ∗ Φ (og c 6) ∗ Φ (og c 7)) := by
  rw [bigSep_eq_bigSepL_of_eq [og c 1, og c 2, og c 3, og c 4, og c 5, og c 6, og c 7] (by revert c; decide) (by revert c; decide)]
  rfl

/-- What a row keeps aside while its smallest share is lent: the seven halves cut off. -/
def lefts (s : Fin 8) (X : Vec F S1x128 .f32) : sProp 𝕄 :=
  iprop(owns (c : Thread nD τ) (arow s) (rsh 0).left X ∗ owns (c : Thread nD τ) (arow s) (rsh 1).left X ∗ owns (c : Thread nD τ) (arow s) (rsh 2).left X ∗ owns (c : Thread nD τ) (arow s) (rsh 3).left X ∗ owns (c : Thread nD τ) (arow s) (rsh 4).left X ∗ owns (c : Thread nD τ) (arow s) (rsh 5).left X ∗ owns (c : Thread nD τ) (arow s) (rsh 6).left X)
/-- What the other devices' rows keep aside. -/
def rowsLeft : sProp 𝕄 := bigSep (Finset.univ.erase c) (fun s => lefts c s (am m s))

omit [FloatOps F] in
theorem row_halve (s : Fin 8) (n : ℕ) (X : Vec F S1x128 .f32) :
    (owns (c : Thread nD τ) (arow s) (rsh n) X : sProp 𝕄) ⊢ iprop(owns (c : Thread nD τ) (arow s) (rsh n).left X ∗ owns (c : Thread nD τ) (arow s) (rsh (n + 1)) X) :=
  (owns_halves (c := (c : Thread nD τ)) (m := arow s) (q := rsh n) X).1
omit [FloatOps F] in
theorem row_unhalve (s : Fin 8) (n : ℕ) (X : Vec F S1x128 .f32) :
    iprop(owns (c : Thread nD τ) (arow s) (rsh n).left X ∗ owns (c : Thread nD τ) (arow s) (rsh (n + 1)) X) ⊢ (owns (c : Thread nD τ) (arow s) (rsh n) X : sProp 𝕄) :=
  (owns_halves (c := (c : Thread nD τ)) (m := arow s) (q := rsh n) X).2

omit [FloatOps F] in
theorem row_cut (s : Fin 8) (X : Vec F S1x128 .f32) :
    (owns (c : Thread nD τ) (arow s) fullShare X : sProp 𝕄) ⊢ iprop(owns (c : Thread nD τ) (arow s) (rsh 7) X ∗ lefts c s X) := by
  show (owns (c : Thread nD τ) (arow s) (rsh 0) X : sProp 𝕄) ⊢ _
  unfold lefts
  iintro H
  ihave G0 := (row_halve c s 0 X) $$ H
  icases G0 with ⟨L0, H0⟩
  ihave G1 := (row_halve c s 1 X) $$ H0
  icases G1 with ⟨L1, H1⟩
  ihave G2 := (row_halve c s 2 X) $$ H1
  icases G2 with ⟨L2, H2⟩
  ihave G3 := (row_halve c s 3 X) $$ H2
  icases G3 with ⟨L3, H3⟩
  ihave G4 := (row_halve c s 4 X) $$ H3
  icases G4 with ⟨L4, H4⟩
  ihave G5 := (row_halve c s 5 X) $$ H4
  icases G5 with ⟨L5, H5⟩
  ihave G6 := (row_halve c s 6 X) $$ H5
  icases G6 with ⟨L6, H6⟩
  isplitl [H6]; · iexact H6
  isplitl [L0]; · iexact L0
  isplitl [L1]; · iexact L1
  isplitl [L2]; · iexact L2
  isplitl [L3]; · iexact L3
  isplitl [L4]; · iexact L4
  isplitl [L5]; · iexact L5
  iexact L6

omit [FloatOps F] in
theorem row_uncut (s : Fin 8) (X : Vec F S1x128 .f32) :
    iprop(owns (c : Thread nD τ) (arow s) (rsh 7) X ∗ lefts c s X) ⊢ (owns (c : Thread nD τ) (arow s) fullShare X : sProp 𝕄) := by
  show _ ⊢ (owns (c : Thread nD τ) (arow s) (rsh 0) X : sProp 𝕄)
  unfold lefts
  iintro ⟨H7, L0, L1, L2, L3, L4, L5, L6⟩
  ihave H6 := (row_unhalve c s 6 X) $$ [L6 H7]
  · isplitl [L6]; · iexact L6
    iexact H7
  ihave H5 := (row_unhalve c s 5 X) $$ [L5 H6]
  · isplitl [L5]; · iexact L5
    iexact H6
  ihave H4 := (row_unhalve c s 4 X) $$ [L4 H5]
  · isplitl [L4]; · iexact L4
    iexact H5
  ihave H3 := (row_unhalve c s 3 X) $$ [L3 H4]
  · isplitl [L3]; · iexact L3
    iexact H4
  ihave H2 := (row_unhalve c s 2 X) $$ [L2 H3]
  · isplitl [L2]; · iexact L2
    iexact H3
  ihave H1 := (row_unhalve c s 1 X) $$ [L1 H2]
  · isplitl [L1]; · iexact L1
    iexact H2
  ihave H0 := (row_unhalve c s 0 X) $$ [L0 H1]
  · isplitl [L0]; · iexact L0
    iexact H1
  iexact H0

theorem amall_row (s : Fin 8) : (fun j => amall m ((aR s).emb j)) = am m s := by
  funext j
  have h0 : (j 0).val = 0 := by have : (j 0).val < 1 := (j 0).isLt; omega
  have e0 : ((aR s).emb j) 0 = s := Fin.ext (by rw [Rect.emb_apply]; show s.val + 1 * (j 0).val = s.val; omega)
  show am m (((aR s).emb j) 0) _ = am m s j
  rw [e0]
  refine congrArg (am m s) (funext fun a => ?_)
  match a with
  | 0 => exact Fin.ext h0.symm
  | 1 => exact Fin.ext (by show ((aR s).emb j 1).val = (j 1).val; rw [Rect.emb_apply]; show 0 + 1 * (j 1).val = (j 1).val; omega)

theorem rows_cut (S : Finset (Fin 8)) : (bigSep S (fun s => owns (c : Thread nD τ) (arow s) fullShare (am m s)) : sProp 𝕄) ⊢ iprop(bigSep S (fun s => owns (c : Thread nD τ) (arow s) (rsh 7) (am m s)) ∗ bigSep S (fun s => lefts c s (am m s))) :=
  (bigSep_mono (fun s _ => row_cut c s (am m s))).trans (Entails.of_eq (BI.bigSep_sep S _ _))
theorem rows_uncut (S : Finset (Fin 8)) : iprop(bigSep S (fun s => owns (c : Thread nD τ) (arow s) (rsh 7) (am m s)) ∗ bigSep S (fun s => lefts c s (am m s))) ⊢ (bigSep S (fun s => owns (c : Thread nD τ) (arow s) fullShare (am m s)) : sProp 𝕄) :=
  (Entails.of_eq (BI.bigSep_sep S _ _).symm).trans (bigSep_mono (fun s _ => row_uncut c s (am m s)))

variable [∀ e, Nonempty (Elt F e)]

theorem rows_join (q : PosShare TreeShare) :
    (bigSep Finset.univ (fun s => owns (c : Thread nD τ) (arow s) q (am m s)) : sProp 𝕄) ⊢ owns (c : Thread nD τ) aM q (amall m) := by
  have e : (fun s => (owns (c : Thread nD τ) (arow s) q (am m s) : sProp 𝕄)) = fun s => owns (c : Thread nD τ) (arow s) q (fun j => amall m ((aR s).emb j)) :=
    funext fun s => congrArg (owns (c : Thread nD τ) (arow s) q) (amall_row m s).symm
  rw [e]
  exact owns_of_rects (c : Thread nD τ) aM q aR (fun _ _ => rfl) aR_disj aR_cov (amall m)
theorem rows_unjoin (q : PosShare TreeShare) :
    (owns (c : Thread nD τ) aM q (amall m) : sProp 𝕄) ⊢ bigSep Finset.univ (fun s => owns (c : Thread nD τ) (arow s) q (am m s)) := by
  have e : (fun s => (owns (c : Thread nD τ) (arow s) q (am m s) : sProp 𝕄)) = fun s => owns (c : Thread nD τ) (arow s) q (fun j => amall m ((aR s).emb j)) :=
    funext fun s => congrArg (owns (c : Thread nD τ) (arow s) q) (amall_row m s).symm
  rw [e]
  exact owns_rects (c : Thread nD τ) aM q aR (fun _ _ => rfl) aR_disj aR_cov (amall m)

/-- All eight rows at one share, for the read of the whole buffer. -/
theorem rows_gather :
    iprop(owns (c : Thread nD τ) (arow c) (rsh 7) (am m c) ∗ owns (c : Thread nD τ) (arow (og c 1)) fullShare (am m (og c 1)) ∗ owns (c : Thread nD τ) (arow (og c 2)) fullShare (am m (og c 2)) ∗ owns (c : Thread nD τ) (arow (og c 3)) fullShare (am m (og c 3)) ∗ owns (c : Thread nD τ) (arow (og c 4)) fullShare (am m (og c 4)) ∗ owns (c : Thread nD τ) (arow (og c 5)) fullShare (am m (og c 5)) ∗ owns (c : Thread nD τ) (arow (og c 6)) fullShare (am m (og c 6)) ∗ owns (c : Thread nD τ) (arow (og c 7)) fullShare (am m (og c 7)))
      ⊢ (iprop(owns (c : Thread nD τ) aM (rsh 7) (amall m) ∗ rowsLeft m c) : sProp 𝕄) := by
  iintro ⟨AO, HR⟩
  ihave HR := (Entails.of_eq (bigSep_behind c (fun s => owns (c : Thread nD τ) (arow s) fullShare (am m s))).symm) $$ HR
  ihave HR := (rows_cut m c (Finset.univ.erase c)) $$ HR
  icases HR with ⟨HR, HL⟩
  isplitr [HL]
  · iapply (rows_join m c (rsh 7))
    rw [bigSep_univ_at _ c]
    isplitl [AO]; · iexact AO
    iexact HR
  · unfold rowsLeft; iexact HL

/-- Afterwards the buffer whole again. -/
theorem rows_return :
    iprop(owns (c : Thread nD τ) aM (rsh 7) (amall m) ∗ rowsLeft m c ∗ lefts c c (am m c))
      ⊢ (owns (c : Thread nD τ) aM fullShare (amall m) : sProp 𝕄) := by
  iintro ⟨HA, HL, HO⟩
  ihave HA := (rows_unjoin m c (rsh 7)) $$ HA
  iapply (rows_join m c fullShare)
  ihave HL := (show iprop(rowsLeft m c ∗ lefts c c (am m c)) ⊢ (bigSep Finset.univ (fun s => lefts c s (am m s)) : sProp 𝕄) from by
    rw [bigSep_univ_at _ c]
    unfold rowsLeft
    iintro ⟨HL, HO⟩
    isplitl [HO]; · iexact HO
    iexact HL) $$ [HL HO]
  · isplitl [HL]; · iexact HL
    iexact HO
  iapply (rows_uncut m c Finset.univ)
  isplitl [HA]; · iexact HA
  iexact HL

/-- The staged block by its row blocks, -/
theorem x_cut : (owns (c : Thread nD τ) xM fullShare (xstg m c) : sProp 𝕄) ⊢ bigSep Finset.univ (fun r => owns (c : Thread nD τ) (xrow r) fullShare (xb m c r)) :=
  owns_rects (c : Thread nD τ) xM fullShare xR (fun _ _ => rfl) xR_disj xR_cov (xstg m c)
/-- and back. -/
theorem x_uncut : (bigSep Finset.univ (fun r => owns (c : Thread nD τ) (xrow r) fullShare (xb m c r)) : sProp 𝕄) ⊢ owns (c : Thread nD τ) xM fullShare (xstg m c) :=
  owns_of_rects (c : Thread nD τ) xM fullShare xR (fun _ _ => rfl) xR_disj xR_cov (xstg m c)

/-- A device's row of the maxima at any contents, by its rows, -/
theorem a_cut (X : Vec F S8x128 .f32) : (owns (c : Thread nD τ) aM fullShare X : sProp 𝕄) ⊢ bigSep Finset.univ (fun s => iprop(∃ Y, owns (c : Thread nD τ) (arow s) fullShare Y)) := by
  refine (owns_rects (c : Thread nD τ) aM fullShare aR (fun _ _ => rfl) aR_disj aR_cov X).trans (bigSep_mono fun s _ => ?_)
  show (owns (c : Thread nD τ) (arow s) fullShare (fun j => X ((aR s).emb j)) : sProp 𝕄) ⊢ iprop(∃ Y, owns (c : Thread nD τ) (arow s) fullShare Y)
  iintro H; iexists _; iexact H

theorem slot_of (s : Fin 8) (X : Vec F S1x512x512 .bf16) : (owns (c : Thread nD τ) (rM.slice (sR s) (fun _ => rfl)) fullShare X : sProp 𝕄) ⊢ iprop(∃ Y, owns (c : Thread nD τ) (slot s) fullShare Y) := by
  iintro H
  iexists (fun i => X (Shape.reshapeEquiv numX.symm i))
  rw [owns_sq c (rM.slice (sR s) (fun _ => rfl)) S512x512 squeezes_S1x512x512_S512x512 numX]
  simp only [Shape.reshapeEquiv_reshapeEquiv, Shape.reshapeEquiv_self]
  iexact H
/-- the landing buffer by its slots, -/
theorem r_cut (X : Vec F S8x512x512 .bf16) : (owns (c : Thread nD τ) rM fullShare X : sProp 𝕄) ⊢ bigSep Finset.univ (fun s => iprop(∃ Y, owns (c : Thread nD τ) (slot s) fullShare Y)) :=
  (owns_rects (c : Thread nD τ) rM fullShare sR (fun _ _ => rfl) sR_disj sR_cov X).trans (bigSep_mono fun s _ => slot_of c s _)
/-- and back. -/
theorem r_uncut : (bigSep Finset.univ (fun s => iprop(∃ Y, owns (c : Thread nD τ) (slot s) fullShare Y)) : sProp 𝕄) ⊢ iprop(∃ X, owns (c : Thread nD τ) rM fullShare X) := by
  refine (bigSep_mono fun s _ => ?_).trans (owns_glue c rM fullShare sR (fun _ _ => rfl) sR_disj sR_cov)
  show (iprop(∃ Y, owns (c : Thread nD τ) (slot s) fullShare Y) : sProp 𝕄) ⊢ iprop(∃ Y, owns (c : Thread nD τ) (rM.slice (sR s) (fun _ => rfl)) fullShare Y)
  iintro ⟨%Y, H⟩
  ihave H := (Entails.of_eq (owns_sq c (rM.slice (sR s) (fun _ => rfl)) S512x512 squeezes_S1x512x512_S512x512 numX fullShare Y)) $$ H
  iexists _; iexact H

theorem wslot_of (s : Fin 2) (X : Vec F S1x512x4096 .f32) : (owns (c : Thread nD τ) (bM.slice (bR s) (fun _ => rfl)) fullShare X : sProp 𝕄) ⊢ iprop(∃ Y, owns (c : Thread nD τ) (wslot s) fullShare Y) := by
  iintro H
  iexists (fun i => X (Shape.reshapeEquiv numW.symm i))
  rw [owns_sq c (bM.slice (bR s) (fun _ => rfl)) S512x4096 squeezes_S1x512x4096_S512x4096 numW]
  simp only [Shape.reshapeEquiv_reshapeEquiv, Shape.reshapeEquiv_self]
  iexact H
/-- The weights' double buffer by its slots, -/
theorem b_cut (X : Vec F S2x512x4096 .f32) : (owns (c : Thread nD τ) bM fullShare X : sProp 𝕄) ⊢ bigSep Finset.univ (fun s => iprop(∃ Y, owns (c : Thread nD τ) (wslot s) fullShare Y)) :=
  (owns_rects (c : Thread nD τ) bM fullShare bR (fun _ _ => rfl) bR_disj bR_cov X).trans (bigSep_mono fun s _ => wslot_of c s _)
/-- and back. -/
theorem b_uncut : (bigSep Finset.univ (fun s => iprop(∃ Y, owns (c : Thread nD τ) (wslot s) fullShare Y)) : sProp 𝕄) ⊢ iprop(∃ X, owns (c : Thread nD τ) bM fullShare X) := by
  refine (bigSep_mono fun s _ => ?_).trans (owns_glue c bM fullShare bR (fun _ _ => rfl) bR_disj bR_cov)
  show (iprop(∃ Y, owns (c : Thread nD τ) (wslot s) fullShare Y) : sProp 𝕄) ⊢ iprop(∃ Y, owns (c : Thread nD τ) (bM.slice (bR s) (fun _ => rfl)) fullShare Y)
  iintro ⟨%Y, H⟩
  ihave H := (Entails.of_eq (owns_sq c (bM.slice (bR s) (fun _ => rfl)) S512x4096 squeezes_S1x512x4096_S512x4096 numW fullShare Y)) $$ H
  iexists _; iexact H

/-- The whole weights at the two copies' shares. -/
theorem w_cut : (owns (c : Thread nD τ) wM fullShare (wall m c) : sProp 𝕄) ⊣⊢ iprop(owns (c : Thread nD τ) wM (wsh 0) (wall m c) ∗ owns (c : Thread nD τ) wM (wsh 1) (wall m c)) :=
  owns_halves (c := (c : Thread nD τ)) (m := wM) (q := fullShare) (wall m c)

end Pieces

end Cert.Exchange

end
-- ==== Proof.Fams.lean ====
/-
What a device holds before and after the kernel, by families of cells.
-/
module

public import proofs.«01_k».proof.Proof.Rows

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_pair (Φ : Fin 2 → sProp 𝕄) : bigSep Finset.univ Φ = iprop(Φ 0 ∗ Φ 1) :=
  bigSep_univ_eq_bigSepL [0, 1] (by decide) (by decide) Φ

/-- The indices from `a` on, `n` of them, among `k`. -/
def run (n a k : ℕ) (h : a + n ≤ k) : Fin n ↪ Fin k :=
  ⟨fun j => ⟨a + j.val, by have := j.isLt; omega⟩, fun i j e => Fin.ext (by have := congrArg Fin.val e; dsimp only at this; omega)⟩

theorem run_s (j : Fin 7) : cellSem (run 7 1 31 (by decide) j) = .dma (sSem j) := by revert j; decide
theorem run_r (j : Fin 8) : cellSem (run 8 8 31 (by decide) j) = .dma (rSem j) := by revert j; decide
theorem run_t (j : Fin 7) : cellSem (run 7 16 31 (by decide) j) = .dma (tSem j) := by revert j; decide
theorem run_z (j : Fin 8) : cellSem (run 8 23 31 (by decide) j) = .dma (zSem j) := by revert j; decide
theorem own_s (j : Fin 7) : dsem (run 7 0 32 (by decide) j) = sSem j := by revert j; decide
theorem own_r (j : Fin 8) : dsem (run 8 7 32 (by decide) j) = rSem j := by revert j; decide
theorem own_t (j : Fin 7) : dsem (run 7 15 32 (by decide) j) = tSem j := by revert j; decide
theorem own_z (j : Fin 8) : dsem (run 8 22 32 (by decide) j) = zSem j := by revert j; decide
theorem own_w (j : Fin 2) : dsem (run 2 30 32 (by decide) j) = wSem j := by revert j; decide

/-- The four families of transfer semaphores. -/
def fams (Φ : SemLoc sig → sProp 𝕄) : sProp 𝕄 :=
  iprop(bigSep Finset.univ (fun j : Fin 7 => Φ (.dma (sSem j))) ∗ bigSep Finset.univ (fun j : Fin 8 => Φ (.dma (rSem j)))
    ∗ bigSep Finset.univ (fun j : Fin 7 => Φ (.dma (tSem j))) ∗ bigSep Finset.univ (fun j : Fin 8 => Φ (.dma (zSem j))))

omit [FloatOps F] in
/-- The cells of a device: its barrier's, and the four families. -/
theorem cells_split (Φ : SemLoc sig → sProp 𝕄) :
    bigSep Finset.univ (fun k : Fin 31 => Φ (cellSem k)) = iprop(Φ (.reg barS) ∗ fams Φ) := by
  have hu : (Finset.univ : Finset (Fin 31)) = insert 0 (Finset.univ.map (run 7 1 31 (by decide)) ∪ (Finset.univ.map (run 8 8 31 (by decide))
      ∪ (Finset.univ.map (run 7 16 31 (by decide)) ∪ Finset.univ.map (run 8 23 31 (by decide))))) := by decide
  rw [hu, BI.bigSep_insert (by decide), BI.bigSep_union (by decide), BI.bigSep_union (by decide), BI.bigSep_union (by decide),
    BI.bigSep_map, BI.bigSep_map, BI.bigSep_map, BI.bigSep_map]
  simp only [run_s, run_r, run_t, run_z]
  rfl

omit [FloatOps F] in
/-- The semaphores the kernel is handed: the four families, and the two of the weights' copies. -/
theorem own_split (Φ : SemLoc sig → sProp 𝕄) :
    bigSep Finset.univ (fun k : Fin 32 => Φ (.dma (dsem k)))
      = iprop(fams Φ ∗ bigSep Finset.univ (fun h : Fin 2 => Φ (.dma (wSem h)))) := by
  have hu : (Finset.univ : Finset (Fin 32)) = (Finset.univ.map (run 7 0 32 (by decide)) ∪ (Finset.univ.map (run 8 7 32 (by decide))
      ∪ (Finset.univ.map (run 7 15 32 (by decide)) ∪ Finset.univ.map (run 8 22 32 (by decide))))) ∪ Finset.univ.map (run 2 30 32 (by decide)) := by decide
  rw [hu, BI.bigSep_union (by decide), BI.bigSep_union (by decide), BI.bigSep_union (by decide), BI.bigSep_union (by decide),
    BI.bigSep_map, BI.bigSep_map, BI.bigSep_map, BI.bigSep_map, BI.bigSep_map]
  simp only [own_s, own_r, own_t, own_z, own_w]
  rfl

section Ghost

variable (m : (ℓ : Loc nD τ sig) → Buf (Elt F) ℓ) (c : Dev nD)

/-- A device's positions at its cells, at the start; -/
def posns : sProp 𝕄 := iprop(atPos ER (barCell c) 0 ∅ 0 ∗ fams (fun g => atPos ER ((c : Thread nD τ), g) 0 ∅ 0))
/-- the tokens of the duties it pays, -/
def dueToks : sProp 𝕄 :=
  iprop(bigSep (Finset.univ.erase c) (fun p => dutyTok ER (barCell p) 0 c)
    ∗ bigSep Finset.univ (fun j : Fin 7 => dutyTok ER (dcell c (sSem j)) 0 0)
    ∗ bigSep (Finset.univ.erase c) (fun p => dutyTok ER (dcell p (rSem c)) 0 0)
    ∗ bigSep Finset.univ (fun j : Fin 7 => dutyTok ER (dcell c (tSem j)) 0 0)
    ∗ bigSep (Finset.univ.erase c) (fun p => dutyTok ER (dcell p (zSem c)) 0 0))
/-- the credit the launch gives it, -/
def credits : sProp 𝕄 :=
  iprop(cred (tallyAt (barCell c) () 7) ∗ bigSep (Finset.univ.erase c) (fun s => cred (tallyAt (dcell c (rSem s)) () Nx))
    ∗ bigSep (Finset.univ.erase c) (fun s => cred (tallyAt (dcell c (zSem s)) () Na)))
/-- the weights copies' semaphores at zero, -/
def wsems : sProp 𝕄 := bigSep Finset.univ (fun h : Fin 2 => semVal (dcell c (wSem h)) 0)
/-- its scratch buffers, whatever they hold. -/
def scratch : sProp 𝕄 :=
  iprop((∃ X, owns (c : Thread nD τ) rM fullShare X) ∗ (∃ X, owns (c : Thread nD τ) bM fullShare X) ∗ (∃ X, owns (c : Thread nD τ) aM fullShare X))

/-- All a device's kernel starts from besides its staged blocks and scratch buffers. -/
def start : sProp 𝕄 :=
  iprop((∃ K, PC m K) ∗ posns c ∗ dueToks c ∗ credits c ∗ wsems c ∗ owns (c : Thread nD τ) wM fullShare (wall m c))
/-- All its semaphores at zero. -/
def quiet : sProp 𝕄 := iprop(semVal (barCell c) 0 ∗ fams (fun g => semVal ((c : Thread nD τ), g) 0) ∗ wsems c)

def Φ₀ : sProp 𝕄 := iprop(start m c ∗ scratch c)
def Φ₁ : sProp 𝕄 := iprop(quiet c ∗ owns (c : Thread nD τ) wM fullShare (wall m c) ∗ scratch c)

/-! ## Closing the cells -/

variable (K : Dev nD × Fin 31 → ℕ)

theorem close_bar : PC m K ⊢ iprop(atPos ER (barCell c) 1 ∅ 0 -∗ |={Set.univ}=> semVal (barCell c) 0) := by
  iintro HP Ha
  ihave HC := (pc_bar m K c) $$ HP
  icases HC with ⟨%κ, HI, -⟩
  iapply (Rounds.cell_close ER (Rd m) (Set.mem_univ κ) (fun h => h) (R := 1) (duties_later m (barCell c)))
  isplitl [HI]; · iexact HI
  iexact Ha

theorem close_dma (q : DmaSem sig) (h2 : 2 ≤ q.val) (h3 : q.val < 32) (R : ℕ) (hR : ∀ r, R ≤ r → (Rd (F := F) m).duties (dcell c q) r = ∅) :
    iprop(PC m K ∗ atPos ER (dcell c q) R ∅ 0) ⊢ (|={Set.univ}=> semVal (dcell c q) 0 : sProp 𝕄) := by
  iintro ⟨HP, Ha⟩
  ihave HC := (pc_dma m K c q h2 h3) $$ HP
  icases HC with ⟨%κ, HI, -⟩
  iapply (Rounds.cell_close ER (Rd m) (Set.mem_univ κ) (fun h => h) (R := R) hR)
  isplitl [HI]; · iexact HI
  iexact Ha

omit [FloatOps F] in
theorem bigSep_beside {I : Type} [DecidableEq I] {S : Finset I} {R : sProp 𝕄} [BI.Persistent R] {Φ Ψ : I → sProp 𝕄}
    (h : ∀ i ∈ S, iprop(R ∗ Φ i) ⊢ (|={Set.univ}=> Ψ i : sProp 𝕄)) : iprop(R ∗ bigSep S Φ) ⊢ (|={Set.univ}=> bigSep S Ψ : sProp 𝕄) :=
  (sep_mono_left (BI.bigSep_of_persistent S R)).trans
    ((Entails.of_eq (BI.bigSep_sep S (fun _ => R) Φ).symm).trans ((bigSep_mono h).trans (bigSep_fupd _ _)))

theorem close_fam {n : ℕ} (sem : Fin n → DmaSem sig) (h2 : ∀ j, 2 ≤ (sem j).val) (h3 : ∀ j, (sem j).val < 32) :
    PC m K ⊢ iprop(bigSep Finset.univ (fun j : Fin n => atPos ER (dcell c (sem j)) 1 ∅ 0)
      -∗ |={Set.univ}=> bigSep Finset.univ (fun j : Fin n => semVal (dcell c (sem j)) 0)) := by
  iintro HP Ha
  iapply (bigSep_beside (R := PC m K) (fun j _ => close_dma m c K (sem j) (h2 j) (h3 j) 1 (duties_later m _)))
  isplitl [HP]; · iexact HP
  iexact Ha

/-- The cells of what the others send; the device's own is in no round. -/
theorem close_recv (sem : Fin 8 → DmaSem sig) (h2 : ∀ j, 2 ≤ (sem j).val) (h3 : ∀ j, (sem j).val < 32)
    (h0 : ∀ r, (Rd (F := F) m).duties (dcell c (sem c)) r = ∅) :
    PC m K ⊢ iprop(atPos ER (dcell c (sem c)) 0 ∅ 0 -∗ bigSep (Finset.univ.erase c) (fun j => atPos ER (dcell c (sem j)) 1 ∅ 0)
      -∗ |={Set.univ}=> bigSep Finset.univ (fun j => semVal (dcell c (sem j)) 0)) := by
  rw [bigSep_univ_at _ c]
  iintro #HP Ha Hb
  imod (close_dma m c K (sem c) (h2 c) (h3 c) 0 (fun r _ => h0 r)) $$ [Ha] with Hz
  · isplitr; · iexact HP
    iexact Ha
  imod (bigSep_beside (R := PC m K) (S := Finset.univ.erase c) (Φ := fun j => atPos ER (dcell c (sem j)) 1 ∅ 0) (Ψ := fun j => semVal (dcell c (sem j)) 0)
    (fun j _ => close_dma m c K (sem j) (h2 j) (h3 j) 1 (duties_later m _))) $$ [Hb] with Hy
  · isplitr; · iexact HP
    iexact Hb
  imodintro
  isplitl [Hz]; · iexact Hz
  iexact Hy

theorem sSem_lo (j : Fin 7) : 2 ≤ (sSem j).val := by revert j; decide
theorem sSem_hi (j : Fin 7) : (sSem j).val < 32 := by revert j; decide
theorem rSem_lo (j : Fin 8) : 2 ≤ (rSem j).val := by revert j; decide
theorem rSem_hi (j : Fin 8) : (rSem j).val < 32 := by revert j; decide
theorem tSem_lo (j : Fin 7) : 2 ≤ (tSem j).val := by revert j; decide
theorem tSem_hi (j : Fin 7) : (tSem j).val < 32 := by revert j; decide
theorem zSem_lo (j : Fin 8) : 2 ≤ (zSem j).val := by revert j; decide
theorem zSem_hi (j : Fin 8) : (zSem j).val < 32 := by revert j; decide

end Ghost

end Cert.Exchange

end
-- ==== Proof.PartsA.lean ====
/-
The kernel's parts up to the first product: the entry barrier and the sends.
-/
module

public import proofs.«01_k».proof.Proof.Ops3

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 31 → ℕ) (c : Dev nD) [∀ e, Nonempty (Elt F e)]

/-- Five signals of the entry barrier. -/
theorem part1 {Q : _ → sProp 𝕄} :
    PC m K ⊢ iprop(Ow c 0 -∗
      dutyTok ER (barCell (pe c 1)) 0 c -∗
      barPay (pe c 1) c -∗
      dutyTok ER (barCell (pe c 2)) 0 c -∗
      barPay (pe c 2) c -∗
      dutyTok ER (barCell (pe c 3)) 0 c -∗
      barPay (pe c 3) c -∗
      dutyTok ER (barCell (pe c 4)) 0 c -∗
      barPay (pe c 4) c -∗
      dutyTok ER (barCell (pe c 5)) 0 c -∗
      barPay (pe c 5) c -∗
      (∀ v : BitVec 32, ∀ v' : BitVec 32, ∀ w : BitVec 32, iprop((Ow c 5) -∗ Q ⟨c, v, (SemArray.scalar (sig.barrier 0 rfl) : Sems sig S_), v', w⟩))
      -∗ WP c (k0_part1 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 ) Q) := by
  rw [k0_part1_eq_skeleton]; unfold k0_part1_skel
  simp only [semSignalWord, semWaitWord, Prog.lift, Prog.bind_op, Prog.bind_ret, Prog.pure_eq_ret, wp_deviceId]
  iintro #HP HO Tb1 Pb1 Tb2 Pb2 Tb3 Pb3 Tb4 Pb4 Tb5 Pb5 Hk
  iapply (op_signal m K c (pe c 1) _ 0 (dev1_eq c) rfl (pe_ne c 0)) $$ HP HO Tb1 Pb1
  iintro HO
  iapply (op_signal m K c (pe c 2) _ 1 (dev2_eq c) rfl (pe_ne c 1)) $$ HP HO Tb2 Pb2
  iintro HO
  iapply (op_signal m K c (pe c 3) _ 2 (dev3_eq c) rfl (pe_ne c 2)) $$ HP HO Tb3 Pb3
  iintro HO
  iapply (op_signal m K c (pe c 4) _ 3 (dev4_eq c) rfl (pe_ne c 3)) $$ HP HO Tb4 Pb4
  iintro HO
  iapply (op_signal m K c (pe c 5) _ 4 (dev5_eq c) rfl (pe_ne c 4)) $$ HP HO Tb5 Pb5
  iintro HO
  iapply (wret c _)
  iapply Hk
  iexact HO

/-- The other two, the barrier's wait, the first block sent. -/
theorem part2 (v2 v24 c8 : BitVec 32) {Q : _ → sProp 𝕄} :
    PC m K ⊢ iprop(Ow c 5 -∗
      dutyTok ER (barCell (pe c 6)) 0 c -∗
      barPay (pe c 6) c -∗
      dutyTok ER (barCell (pe c 7)) 0 c -∗
      barPay (pe c 7) c -∗
      cred (tallyAt (barCell c) () 7) -∗
      atPos ER (barCell c) 0 ∅ 0 -∗
      owns (c : Thread nD τ) (xrow (pe c 1)) fullShare (xb m c (pe c 1)) -∗
      dutyTok ER (dcell c (sSem 0)) 0 0 -∗
      dutyTok ER (dcell (pe c 1) (rSem c)) 0 0 -∗
      ((Ow c 8 ∗ atPos ER (barCell c) 1 ∅ 0 ∗ (∃ X, owns (pe c 1 : Thread nD τ) (arow c) fullShare X) ∗ (∃ X, owns (pe c 2 : Thread nD τ) (slot c) fullShare X) ∗ (∃ X, owns (pe c 2 : Thread nD τ) (arow c) fullShare X) ∗ (∃ X, owns (pe c 3 : Thread nD τ) (slot c) fullShare X) ∗ (∃ X, owns (pe c 3 : Thread nD τ) (arow c) fullShare X) ∗ (∃ X, owns (pe c 4 : Thread nD τ) (slot c) fullShare X) ∗ (∃ X, owns (pe c 4 : Thread nD τ) (arow c) fullShare X) ∗ (∃ X, owns (pe c 5 : Thread nD τ) (slot c) fullShare X) ∗ (∃ X, owns (pe c 5 : Thread nD τ) (arow c) fullShare X) ∗ (∃ X, owns (pe c 6 : Thread nD τ) (slot c) fullShare X) ∗ (∃ X, owns (pe c 6 : Thread nD τ) (arow c) fullShare X) ∗ (∃ X, owns (pe c 7 : Thread nD τ) (slot c) fullShare X) ∗ (∃ X, owns (pe c 7 : Thread nD τ) (arow c) fullShare X) ∗ cred (tallyAt (dcell c (sSem 0)) () Nx)) -∗ Q ⟨⟩)
      -∗ WP c (k0_part2 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2 (SemArray.scalar (sig.barrier 0 rfl) : Sems sig S_) v24 c8) Q) := by
  rw [k0_part2_eq_skeleton]; unfold k0_part2_skel
  simp only [semSignalWord, semWaitWord, Prog.lift, Prog.bind_op, Prog.bind_ret, Prog.pure_eq_ret, wp_deviceId]
  iintro #HP HO Tb6 Pb6 Tb7 Pb7 HcB HaB X1 Ts0 Tr1 Hk
  iapply (op_signal m K c (pe c 6) _ 5 (dev6_eq c) rfl (pe_ne c 5)) $$ HP HO Tb6 Pb6
  iintro HO
  iapply (op_signal m K c (pe c 7) _ 6 (dev7_eq c) rfl (pe_ne c 6)) $$ HP HO Tb7 Pb7
  iintro HO
  iapply (op_barwait m K c) $$ HP HO HcB HaB
  iintro ⟨HO, B1, B2, B3, B4, B5, B6, B7, HaB⟩
  ihave B1 := (Entails.of_eq (barPay_eq c (pe c 1))) $$ B1
  icases B1 with ⟨D1, E1⟩
  ihave B2 := (Entails.of_eq (barPay_eq c (pe c 2))) $$ B2
  icases B2 with ⟨D2, E2⟩
  ihave B3 := (Entails.of_eq (barPay_eq c (pe c 3))) $$ B3
  icases B3 with ⟨D3, E3⟩
  ihave B4 := (Entails.of_eq (barPay_eq c (pe c 4))) $$ B4
  icases B4 with ⟨D4, E4⟩
  ihave B5 := (Entails.of_eq (barPay_eq c (pe c 5))) $$ B5
  icases B5 with ⟨D5, E5⟩
  ihave B6 := (Entails.of_eq (barPay_eq c (pe c 6))) $$ B6
  icases B6 with ⟨D6, E6⟩
  ihave B7 := (Entails.of_eq (barPay_eq c (pe c 7))) $$ B7
  icases B7 with ⟨D7, E7⟩
  iapply (op_send m K c 0 1 rfl 7 rfl (dev8_eq c) (xrow_eq (off3_eq1 c)) (slot_eq (off2_eq c)) sem_s0 (sem_r (off1_eq c)) rfl) $$ HP HO X1 D1 Ts0 Tr1
  iintro ⟨Cs0, HO⟩
  iapply (wret c _)
  iapply Hk
  isplitl [HO]; · iexact HO
  isplitl [HaB]; · iexact HaB
  isplitl [E1]; · iexact E1
  isplitl [D2]; · iexact D2
  isplitl [E2]; · iexact E2
  isplitl [D3]; · iexact D3
  isplitl [E3]; · iexact E3
  isplitl [D4]; · iexact D4
  isplitl [E4]; · iexact E4
  isplitl [D5]; · iexact D5
  isplitl [E5]; · iexact E5
  isplitl [D6]; · iexact D6
  isplitl [E6]; · iexact E6
  isplitl [D7]; · iexact D7
  isplitl [E7]; · iexact E7
  iexact Cs0

/-- Three blocks sent. -/
theorem part3 (v2 : BitVec 32) {Q : _ → sProp 𝕄} :
    PC m K ⊢ iprop(Ow c 8 -∗
      owns (c : Thread nD τ) (xrow (pe c 2)) fullShare (xb m c (pe c 2)) -∗
      (∃ X, owns (pe c 2 : Thread nD τ) (slot c) fullShare X) -∗
      dutyTok ER (dcell c (sSem 1)) 0 0 -∗
      dutyTok ER (dcell (pe c 2) (rSem c)) 0 0 -∗
      owns (c : Thread nD τ) (xrow (pe c 3)) fullShare (xb m c (pe c 3)) -∗
      (∃ X, owns (pe c 3 : Thread nD τ) (slot c) fullShare X) -∗
      dutyTok ER (dcell c (sSem 2)) 0 0 -∗
      dutyTok ER (dcell (pe c 3) (rSem c)) 0 0 -∗
      owns (c : Thread nD τ) (xrow (pe c 4)) fullShare (xb m c (pe c 4)) -∗
      (∃ X, owns (pe c 4 : Thread nD τ) (slot c) fullShare X) -∗
      dutyTok ER (dcell c (sSem 3)) 0 0 -∗
      dutyTok ER (dcell (pe c 4) (rSem c)) 0 0 -∗
      ((Ow c 11 ∗ cred (tallyAt (dcell c (sSem 1)) () Nx) ∗ cred (tallyAt (dcell c (sSem 2)) () Nx) ∗ cred (tallyAt (dcell c (sSem 3)) () Nx)) -∗ Q ⟨⟩)
      -∗ WP c (k0_part3 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2) Q) := by
  rw [k0_part3_eq_skeleton]; unfold k0_part3_skel
  simp only [semSignalWord, semWaitWord, Prog.lift, Prog.bind_op, Prog.bind_ret, Prog.pure_eq_ret, wp_deviceId]
  iintro #HP HO X2 D2 Ts1 Tr2 X3 D3 Ts2 Tr3 X4 D4 Ts3 Tr4 Hk
  iapply (op_send m K c 1 2 rfl 8 rfl (dev9_eq c) (xrow_eq (off3_eq2 c)) (slot_eq (off2_eq c)) sem_s1 (sem_r (off1_eq c)) rfl) $$ HP HO X2 D2 Ts1 Tr2
  iintro ⟨Cs1, HO⟩
  iapply (op_send m K c 2 3 rfl 9 rfl (dev10_eq c) (xrow_eq (off3_eq3 c)) (slot_eq (off2_eq c)) sem_s2 (sem_r (off1_eq c)) rfl) $$ HP HO X3 D3 Ts2 Tr3
  iintro ⟨Cs2, HO⟩
  iapply (op_send m K c 3 4 rfl 10 rfl (dev11_eq c) (xrow_eq (off3_eq4 c)) (slot_eq (off2_eq c)) sem_s3 (sem_r (off1_eq c)) rfl) $$ HP HO X4 D4 Ts3 Tr4
  iintro ⟨Cs3, HO⟩
  iapply (wret c _)
  iapply Hk
  isplitl [HO]; · iexact HO
  isplitl [Cs1]; · iexact Cs1
  isplitl [Cs2]; · iexact Cs2
  iexact Cs3

/-- The last three sent, and the device's own block read. -/
theorem part4 (v2 : BitVec 32) {Q : _ → sProp 𝕄} :
    PC m K ⊢ iprop(Ow c 11 -∗
      owns (c : Thread nD τ) (xrow (pe c 5)) fullShare (xb m c (pe c 5)) -∗
      (∃ X, owns (pe c 5 : Thread nD τ) (slot c) fullShare X) -∗
      dutyTok ER (dcell c (sSem 4)) 0 0 -∗
      dutyTok ER (dcell (pe c 5) (rSem c)) 0 0 -∗
      owns (c : Thread nD τ) (xrow (pe c 6)) fullShare (xb m c (pe c 6)) -∗
      (∃ X, owns (pe c 6 : Thread nD τ) (slot c) fullShare X) -∗
      dutyTok ER (dcell c (sSem 5)) 0 0 -∗
      dutyTok ER (dcell (pe c 6) (rSem c)) 0 0 -∗
      owns (c : Thread nD τ) (xrow (pe c 7)) fullShare (xb m c (pe c 7)) -∗
      (∃ X, owns (pe c 7 : Thread nD τ) (slot c) fullShare X) -∗
      dutyTok ER (dcell c (sSem 6)) 0 0 -∗
      dutyTok ER (dcell (pe c 7) (rSem c)) 0 0 -∗
      owns (c : Thread nD τ) (xrow c) fullShare (xb m c c) -∗
      ((Ow c 14 ∗ cred (tallyAt (dcell c (sSem 4)) () Nx) ∗ cred (tallyAt (dcell c (sSem 5)) () Nx) ∗ cred (tallyAt (dcell c (sSem 6)) () Nx) ∗ owns (c : Thread nD τ) (xrow c) fullShare (xb m c c)) -∗ Q (k0_pay1 (xb m c c)))
      -∗ WP c (k0_part4 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2) Q) := by
  rw [k0_part4_eq_skeleton]; unfold k0_part4_skel
  simp only [semSignalWord, semWaitWord, Prog.lift, Prog.bind_op, Prog.bind_ret, Prog.pure_eq_ret, wp_deviceId]
  iintro #HP HO X5 D5 Ts4 Tr5 X6 D6 Ts5 Tr6 X7 D7 Ts6 Tr7 X0 Hk
  iapply (op_send m K c 4 5 rfl 11 rfl (dev12_eq c) (xrow_eq (off3_eq5 c)) (slot_eq (off2_eq c)) sem_s4 (sem_r (off1_eq c)) rfl) $$ HP HO X5 D5 Ts4 Tr5
  iintro ⟨Cs4, HO⟩
  iapply (op_send m K c 5 6 rfl 12 rfl (dev13_eq c) (xrow_eq (off3_eq6 c)) (slot_eq (off2_eq c)) sem_s5 (sem_r (off1_eq c)) rfl) $$ HP HO X6 D6 Ts5 Tr6
  iintro ⟨Cs5, HO⟩
  iapply (op_send m K c 6 7 rfl 13 rfl (dev14_eq c) (xrow_eq (off3_eq7 c)) (slot_eq (off2_eq c)) sem_s6 (sem_r (off1_eq c)) rfl) $$ HP HO X7 D7 Ts6 Tr7
  iintro ⟨Cs6, HO⟩
  iapply (ld_xrow c c (xb m c c) (off4_eq c)) $$ X0
  iintro X0
  iapply (wret c _)
  iapply Hk
  isplitl [HO]; · iexact HO
  isplitl [Cs4]; · iexact Cs4
  isplitl [Cs5]; · iexact Cs5
  isplitl [Cs6]; · iexact Cs6
  iexact X0

/-- The own block stored into its slot, the weights' first two copies started and the first landed. -/
theorem part5 (v2 : BitVec 32) (X : Vec F S512x512 .bf16) {Q : _ → sProp 𝕄} :
    PC m K ⊢ iprop(owns (c : Thread nD τ) (slot c) fullShare X -∗
      WIdle m c 0 -∗
      WIdle m c 1 -∗
      Ow c 14 -∗
      ((owns (c : Thread nD τ) (slot c) fullShare (xb m c c) ∗ WIdle m c 0 ∗ WFly m c 1 (og c 0) ∗ Ow c 14) -∗ Q (upW (wb m c (og c 0) 0)))
      -∗ WP c (k0_part5 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2 (k0_pay1 (xb m c c))) Q) := by
  rw [k0_part5_eq_skeleton]; unfold k0_part5_skel
  simp only [semSignalWord, semWaitWord, Prog.lift, Prog.bind_op, Prog.bind_ret, Prog.pure_eq_ret, wp_deviceId]
  iintro #HP S0 W0 W1 HO Hk
  iapply (ld_slot c c X (off5_eq c)) $$ S0
  iintro S0
  iapply (st_slot c c X (xb m c c) (off5_eq c) ((congrArg k0_pay2 (pay1_eq _)).trans (pay2_eq _))) $$ S0
  iintro S0
  iapply (op_wstart m c 0 (og c 0) sem_w0 (wblk_eq (off6_eq0 c)) (wslot_eq rfl)) $$ W0
  iintro W0
  iapply (op_wstart m c 1 (og c 0) sem_w1 (wblk_eq (off7_eq0 c)) (wslot_eq rfl)) $$ W1
  iintro W1
  iapply (op_wwait m K c 14 0 (og c 0) sem_w0 (wslot_eq rfl)) $$ HP HO W0
  iintro ⟨HO, W0⟩
  iapply (ld_has c m 0 (og c 0) rfl) $$ W0
  iintro W0
  iapply (wret c _)
  iapply Hk
  isplitl [S0]; · iexact S0
  isplitl [W0]; · iexact W0
  isplitl [W1]; · iexact W1
  iexact HO

end Cert.Exchange

end
-- ==== Proof.PartsB.lean ====
/-
The kernel's parts that multiply: the chunks of the first four blocks.
-/
module

public import proofs.«01_k».proof.Proof.Ops3

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 31 → ℕ) (c : Dev nD) [∀ e, Nonempty (Elt F e)]

/-- The first product stored into the left half; the right half's weights landed. -/
theorem part6 (v2 : BitVec 32) (A B : Vec F S512x4096 .f32) {Q : _ → sProp 𝕄} :
    PC m K ⊢ iprop(owns (c : Thread nD τ) (slot c) fullShare (xb m c c) -∗
      owns (c : Thread nD τ) oM fullShare (joinH (A) (B)) -∗
      WIdle m c 0 -∗
      Ow c 14 -∗
      WFly m c 1 (og c 0) -∗
      (∀ v : BitVec 32, ∀ w : BitVec 32, iprop((owns (c : Thread nD τ) (slot c) fullShare (xb m c c) ∗ owns (c : Thread nD τ) oM fullShare (joinH (acc m c 0 0) (B)) ∗ WFly m c 0 (og c 1) ∗ Ow c 14 ∗ WIdle m c 1) -∗ Q ⟨k0_pay4 (upW (wb m c (og c 0) 1)), v, w⟩))
      -∗ WP c (k0_part6 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2 (upW (wb m c (og c 0) 0))) Q) := by
  rw [k0_part6_eq_skeleton]; unfold k0_part6_skel
  simp only [semSignalWord, semWaitWord, Prog.lift, Prog.bind_op, Prog.bind_ret, Prog.pure_eq_ret, wp_deviceId]
  iintro #HP S0 OUT W0 HO W1 Hk
  iapply (ld_slot c c (xb m c c) (off8_eq0' c)) $$ S0
  iintro S0
  iapply (ld_o0 c (A) (B)) $$ OUT
  iintro OUT
  iapply (st_o0 c (A) (B) (acc m c 0 0) (pay3_eq _ _)) $$ OUT
  iintro OUT
  iapply (op_wstart m c 0 (og c 1) sem_w0 (wblk_eq (off6_eq1 c)) (wslot_eq rfl)) $$ W0
  iintro W0
  iapply (op_wwait m K c 14 1 (og c 0) sem_w1 (wslot_eq rfl)) $$ HP HO W1
  iintro ⟨HO, W1⟩
  iapply (ld_has c m 1 (og c 0) rfl) $$ W1
  iintro W1
  iapply (wret c _)
  iapply Hk
  isplitl [S0]; · iexact S0
  isplitl [OUT]; · iexact OUT
  isplitl [W0]; · iexact W0
  isplitl [HO]; · iexact HO
  iexact W1

/-- The first product of the right half; the second block landed. -/
theorem part7 (v2 v176 c8 : BitVec 32) (B : Vec F S512x4096 .f32) {Q : _ → sProp 𝕄} :
    PC m K ⊢ iprop(owns (c : Thread nD τ) (slot c) fullShare (xb m c c) -∗
      owns (c : Thread nD τ) oM fullShare (joinH (acc m c 0 0) (B)) -∗
      WIdle m c 1 -∗
      Ow c 14 -∗
      cred (tallyAt (dcell c (rSem (og c 1))) () Nx) -∗
      atPos ER (dcell c (rSem (og c 1))) 0 ∅ 0 -∗
      ((owns (c : Thread nD τ) (slot c) fullShare (xb m c c) ∗ owns (c : Thread nD τ) oM fullShare (joinH (acc m c 0 0) (acc m c 1 0)) ∗ WFly m c 1 (og c 1) ∗ Ow c 14 ∗ atPos ER (dcell c (rSem (og c 1))) 1 ∅ 0 ∗ owns (c : Thread nD τ) (slot (og c 1)) fullShare (xb m (og c 1) c)) -∗ Q ⟨⟩)
      -∗ WP c (k0_part7 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2 (k0_pay4 (upW (wb m c (og c 0) 1))) v176 c8) Q) := by
  rw [k0_part7_eq_skeleton]; unfold k0_part7_skel
  simp only [semSignalWord, semWaitWord, Prog.lift, Prog.bind_op, Prog.bind_ret, Prog.pure_eq_ret, wp_deviceId]
  iintro #HP S0 OUT W1 HO Cr1 Ar1 Hk
  iapply (ld_slot c c (xb m c c) (off8_eq0' c)) $$ S0
  iintro S0
  iapply (ld_o1 c (acc m c 0 0) (B)) $$ OUT
  iintro OUT
  iapply (st_o1 c (acc m c 0 0) (B) (acc m c 1 0) (pay5_eq _ _)) $$ OUT
  iintro OUT
  iapply (op_wstart m c 1 (og c 1) sem_w1 (wblk_eq (off7_eq1 c)) (wslot_eq rfl)) $$ W1
  iintro W1
  iapply (op_rwait m K c 0 1 rfl (sem_r (off9_eq1 c)) (slot_eq (off10_eq1 c))) $$ HP HO Cr1 Ar1
  iintro ⟨HO, S1, Ar1⟩
  iapply (wret c _)
  iapply Hk
  isplitl [S0]; · iexact S0
  isplitl [OUT]; · iexact OUT
  isplitl [W1]; · iexact W1
  isplitl [HO]; · iexact HO
  isplitl [Ar1]; · iexact Ar1
  iexact S1

/-- Products of a pair of blocks added to a half of the result, and the copies of the weights around them. -/
theorem part8 (v2 : BitVec 32) {Q : _ → sProp 𝕄} :
    PC m K ⊢ iprop(Ow c 14 -∗
      WFly m c 0 (og c 1) -∗
      owns (c : Thread nD τ) (slot (og c 1)) fullShare (xb m (og c 1) c) -∗
      owns (c : Thread nD τ) oM fullShare (joinH (acc m c 0 0) (acc m c 1 0)) -∗
      ((Ow c 14 ∗ WFly m c 0 (og c 2) ∗ owns (c : Thread nD τ) (slot (og c 1)) fullShare (xb m (og c 1) c) ∗ owns (c : Thread nD τ) oM fullShare (joinH (acc m c 0 1) (acc m c 1 0))) -∗ Q ⟨⟩)
      -∗ WP c (k0_part8 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2) Q) := by
  rw [k0_part8_eq_skeleton]; unfold k0_part8_skel
  simp only [semSignalWord, semWaitWord, Prog.lift, Prog.bind_op, Prog.bind_ret, Prog.pure_eq_ret, wp_deviceId]
  iintro #HP HO W0 S1 OUT Hk
  iapply (op_wwait m K c 14 0 (og c 1) sem_w0 (wslot_eq rfl)) $$ HP HO W0
  iintro ⟨HO, W0⟩
  iapply (ld_has c m 0 (og c 1) rfl) $$ W0
  iintro W0
  iapply (ld_slot c (og c 1) (xb m (og c 1) c) (off8_eq1 c)) $$ S1
  iintro S1
  iapply (ld_o0 c (acc m c 0 0) (acc m c 1 0)) $$ OUT
  iintro OUT
  iapply (ld_o0 c (acc m c 0 0) (acc m c 1 0)) $$ OUT
  iintro OUT
  iapply (st_o0 c (acc m c 0 0) (acc m c 1 0) (acc m c 0 1) (pay6_eq _ _ _)) $$ OUT
  iintro OUT
  iapply (op_wstart m c 0 (og c 2) sem_w0 (wblk_eq (off6_eq2 c)) (wslot_eq rfl)) $$ W0
  iintro W0
  iapply (wret c _)
  iapply Hk
  isplitl [HO]; · iexact HO
  isplitl [W0]; · iexact W0
  isplitl [S1]; · iexact S1
  iexact OUT

/-- Products of a pair of blocks added to a half of the result, and the copies of the weights around them. -/
theorem part9 (v2 : BitVec 32) {Q : _ → sProp 𝕄} :
    PC m K ⊢ iprop(Ow c 14 -∗
      WFly m c 1 (og c 1) -∗
      owns (c : Thread nD τ) (slot (og c 1)) fullShare (xb m (og c 1) c) -∗
      owns (c : Thread nD τ) oM fullShare (joinH (acc m c 0 1) (acc m c 1 0)) -∗
      ((Ow c 14 ∗ WFly m c 1 (og c 2) ∗ owns (c : Thread nD τ) (slot (og c 1)) fullShare (xb m (og c 1) c) ∗ owns (c : Thread nD τ) oM fullShare (joinH (acc m c 0 1) (acc m c 1 1))) -∗ Q ⟨⟩)
      -∗ WP c (k0_part9 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2) Q) := by
  rw [k0_part9_eq_skeleton]; unfold k0_part9_skel
  simp only [semSignalWord, semWaitWord, Prog.lift, Prog.bind_op, Prog.bind_ret, Prog.pure_eq_ret, wp_deviceId]
  iintro #HP HO W1 S1 OUT Hk
  iapply (op_wwait m K c 14 1 (og c 1) sem_w1 (wslot_eq rfl)) $$ HP HO W1
  iintro ⟨HO, W1⟩
  iapply (ld_has c m 1 (og c 1) rfl) $$ W1
  iintro W1
  iapply (ld_slot c (og c 1) (xb m (og c 1) c) (off8_eq1 c)) $$ S1
  iintro S1
  iapply (ld_o1 c (acc m c 0 1) (acc m c 1 0)) $$ OUT
  iintro OUT
  iapply (ld_o1 c (acc m c 0 1) (acc m c 1 0)) $$ OUT
  iintro OUT
  iapply (st_o1 c (acc m c 0 1) (acc m c 1 0) (acc m c 1 1) (pay7_eq _ _ _)) $$ OUT
  iintro OUT
  iapply (op_wstart m c 1 (og c 2) sem_w1 (wblk_eq (off7_eq2 c)) (wslot_eq rfl)) $$ W1
  iintro W1
  iapply (wret c _)
  iapply Hk
  isplitl [HO]; · iexact HO
  isplitl [W1]; · iexact W1
  isplitl [S1]; · iexact S1
  iexact OUT

/-- Products of a pair of blocks added to a half of the result, and the copies of the weights around them. -/
theorem part10 (v2 : BitVec 32) {Q : _ → sProp 𝕄} :
    PC m K ⊢ iprop(Ow c 14 -∗
      cred (tallyAt (dcell c (rSem (og c 2))) () Nx) -∗
      atPos ER (dcell c (rSem (og c 2))) 0 ∅ 0 -∗
      WFly m c 0 (og c 2) -∗
      owns (c : Thread nD τ) oM fullShare (joinH (acc m c 0 1) (acc m c 1 1)) -∗
      ((Ow c 14 ∗ atPos ER (dcell c (rSem (og c 2))) 1 ∅ 0 ∗ owns (c : Thread nD τ) (slot (og c 2)) fullShare (xb m (og c 2) c) ∗ WIdle m c 0 ∗ owns (c : Thread nD τ) oM fullShare (joinH (acc m c 0 2) (acc m c 1 1))) -∗ Q ⟨⟩)
      -∗ WP c (k0_part10 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2) Q) := by
  rw [k0_part10_eq_skeleton]; unfold k0_part10_skel
  simp only [semSignalWord, semWaitWord, Prog.lift, Prog.bind_op, Prog.bind_ret, Prog.pure_eq_ret, wp_deviceId]
  iintro #HP HO Cr2 Ar2 W0 OUT Hk
  iapply (op_rwait m K c 1 2 rfl (sem_r (off9_eq2 c)) (slot_eq (off10_eq2 c))) $$ HP HO Cr2 Ar2
  iintro ⟨HO, S2, Ar2⟩
  iapply (op_wwait m K c 14 0 (og c 2) sem_w0 (wslot_eq rfl)) $$ HP HO W0
  iintro ⟨HO, W0⟩
  iapply (ld_has c m 0 (og c 2) rfl) $$ W0
  iintro W0
  iapply (ld_slot c (og c 2) (xb m (og c 2) c) (off8_eq2 c)) $$ S2
  iintro S2
  iapply (ld_o0 c (acc m c 0 1) (acc m c 1 1)) $$ OUT
  iintro OUT
  iapply (ld_o0 c (acc m c 0 1) (acc m c 1 1)) $$ OUT
  iintro OUT
  iapply (st_o0 c (acc m c 0 1) (acc m c 1 1) (acc m c 0 2) (pay8_eq _ _ _)) $$ OUT
  iintro OUT
  iapply (wret c _)
  iapply Hk
  isplitl [HO]; · iexact HO
  isplitl [Ar2]; · iexact Ar2
  isplitl [S2]; · iexact S2
  isplitl [W0]; · iexact W0
  iexact OUT

/-- Products of a pair of blocks added to a half of the result, and the copies of the weights around them. -/
theorem part11 (v2 : BitVec 32) {Q : _ → sProp 𝕄} :
    PC m K ⊢ iprop(WIdle m c 0 -∗
      Ow c 14 -∗
      WFly m c 1 (og c 2) -∗
      owns (c : Thread nD τ) (slot (og c 2)) fullShare (xb m (og c 2) c) -∗
      owns (c : Thread nD τ) oM fullShare (joinH (acc m c 0 2) (acc m c 1 1)) -∗
      ((WFly m c 0 (og c 3) ∗ Ow c 14 ∗ WIdle m c 1 ∗ owns (c : Thread nD τ) (slot (og c 2)) fullShare (xb m (og c 2) c) ∗ owns (c : Thread nD τ) oM fullShare (joinH (acc m c 0 2) (acc m c 1 2))) -∗ Q ⟨⟩)
      -∗ WP c (k0_part11 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2) Q) := by
  rw [k0_part11_eq_skeleton]; unfold k0_part11_skel
  simp only [semSignalWord, semWaitWord, Prog.lift, Prog.bind_op, Prog.bind_ret, Prog.pure_eq_ret, wp_deviceId]
  iintro #HP W0 HO W1 S2 OUT Hk
  iapply (op_wstart m c 0 (og c 3) sem_w0 (wblk_eq (off6_eq3 c)) (wslot_eq rfl)) $$ W0
  iintro W0
  iapply (op_wwait m K c 14 1 (og c 2) sem_w1 (wslot_eq rfl)) $$ HP HO W1
  iintro ⟨HO, W1⟩
  iapply (ld_has c m 1 (og c 2) rfl) $$ W1
  iintro W1
  iapply (ld_slot c (og c 2) (xb m (og c 2) c) (off8_eq2 c)) $$ S2
  iintro S2
  iapply (ld_o1 c (acc m c 0 2) (acc m c 1 1)) $$ OUT
  iintro OUT
  iapply (ld_o1 c (acc m c 0 2) (acc m c 1 1)) $$ OUT
  iintro OUT
  iapply (st_o1 c (acc m c 0 2) (acc m c 1 1) (acc m c 1 2) (pay9_eq _ _ _)) $$ OUT
  iintro OUT
  iapply (wret c _)
  iapply Hk
  isplitl [W0]; · iexact W0
  isplitl [HO]; · iexact HO
  isplitl [W1]; · iexact W1
  isplitl [S2]; · iexact S2
  iexact OUT

/-- Products of a pair of blocks added to a half of the result, and the copies of the weights around them. -/
theorem part12 (v2 : BitVec 32) {Q : _ → sProp 𝕄} :
    PC m K ⊢ iprop(WIdle m c 1 -∗
      Ow c 14 -∗
      cred (tallyAt (dcell c (rSem (og c 3))) () Nx) -∗
      atPos ER (dcell c (rSem (og c 3))) 0 ∅ 0 -∗
      WFly m c 0 (og c 3) -∗
      owns (c : Thread nD τ) oM fullShare (joinH (acc m c 0 2) (acc m c 1 2)) -∗
      ((WFly m c 1 (og c 3) ∗ Ow c 14 ∗ atPos ER (dcell c (rSem (og c 3))) 1 ∅ 0 ∗ owns (c : Thread nD τ) (slot (og c 3)) fullShare (xb m (og c 3) c) ∗ WIdle m c 0 ∗ owns (c : Thread nD τ) oM fullShare (joinH (acc m c 0 2) (acc m c 1 2))) -∗ Q ⟨k0_pay10 (upW (wb m c (og c 3) 0)) (upX (xb m (og c 3) c)), k0_pay11 (acc m c 0 2)⟩)
      -∗ WP c (k0_part12 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2) Q) := by
  rw [k0_part12_eq_skeleton]; unfold k0_part12_skel
  simp only [semSignalWord, semWaitWord, Prog.lift, Prog.bind_op, Prog.bind_ret, Prog.pure_eq_ret, wp_deviceId]
  iintro #HP W1 HO Cr3 Ar3 W0 OUT Hk
  iapply (op_wstart m c 1 (og c 3) sem_w1 (wblk_eq (off7_eq3 c)) (wslot_eq rfl)) $$ W1
  iintro W1
  iapply (op_rwait m K c 2 3 rfl (sem_r (off9_eq3 c)) (slot_eq (off10_eq3 c))) $$ HP HO Cr3 Ar3
  iintro ⟨HO, S3, Ar3⟩
  iapply (op_wwait m K c 14 0 (og c 3) sem_w0 (wslot_eq rfl)) $$ HP HO W0
  iintro ⟨HO, W0⟩
  iapply (ld_has c m 0 (og c 3) rfl) $$ W0
  iintro W0
  iapply (ld_slot c (og c 3) (xb m (og c 3) c) (off8_eq3 c)) $$ S3
  iintro S3
  iapply (ld_o0 c (acc m c 0 2) (acc m c 1 2)) $$ OUT
  iintro OUT
  iapply (wret c _)
  iapply Hk
  isplitl [W1]; · iexact W1
  isplitl [HO]; · iexact HO
  isplitl [Ar3]; · iexact Ar3
  isplitl [S3]; · iexact S3
  isplitl [W0]; · iexact W0
  iexact OUT

/-- Products of a pair of blocks added to a half of the result, and the copies of the weights around them. -/
theorem part13 (v2 : BitVec 32) {Q : _ → sProp 𝕄} :
    PC m K ⊢ iprop(owns (c : Thread nD τ) oM fullShare (joinH (acc m c 0 2) (acc m c 1 2)) -∗
      WIdle m c 0 -∗
      Ow c 14 -∗
      WFly m c 1 (og c 3) -∗
      owns (c : Thread nD τ) (slot (og c 3)) fullShare (xb m (og c 3) c) -∗
      ((owns (c : Thread nD τ) oM fullShare (joinH (acc m c 0 3) (acc m c 1 2)) ∗ WFly m c 0 (og c 4) ∗ Ow c 14 ∗ WIdle m c 1 ∗ owns (c : Thread nD τ) (slot (og c 3)) fullShare (xb m (og c 3) c)) -∗ Q (k0_pay13 (upW (wb m c (og c 3) 1)) (upX (xb m (og c 3) c)) (acc m c 1 2)))
      -∗ WP c (k0_part13 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2 (k0_pay10 (upW (wb m c (og c 3) 0)) (upX (xb m (og c 3) c))) (k0_pay11 (acc m c 0 2))) Q) := by
  rw [k0_part13_eq_skeleton]; unfold k0_part13_skel
  simp only [semSignalWord, semWaitWord, Prog.lift, Prog.bind_op, Prog.bind_ret, Prog.pure_eq_ret, wp_deviceId]
  iintro #HP OUT W0 HO W1 S3 Hk
  iapply (ld_o0 c (acc m c 0 2) (acc m c 1 2)) $$ OUT
  iintro OUT
  iapply (st_o0 c (acc m c 0 2) (acc m c 1 2) (acc m c 0 3) (pay12_eq _ _ _)) $$ OUT
  iintro OUT
  iapply (op_wstart m c 0 (og c 4) sem_w0 (wblk_eq (off6_eq4 c)) (wslot_eq rfl)) $$ W0
  iintro W0
  iapply (op_wwait m K c 14 1 (og c 3) sem_w1 (wslot_eq rfl)) $$ HP HO W1
  iintro ⟨HO, W1⟩
  iapply (ld_has c m 1 (og c 3) rfl) $$ W1
  iintro W1
  iapply (ld_slot c (og c 3) (xb m (og c 3) c) (off8_eq3 c)) $$ S3
  iintro S3
  iapply (ld_o1 c (acc m c 0 3) (acc m c 1 2)) $$ OUT
  iintro OUT
  iapply (wret c _)
  iapply Hk
  isplitl [OUT]; · iexact OUT
  isplitl [W0]; · iexact W0
  isplitl [HO]; · iexact HO
  isplitl [W1]; · iexact W1
  iexact S3

end Cert.Exchange

end
-- ==== Proof.PartsC.lean ====
/-
The kernel's parts that multiply: the chunks of the last four blocks.
-/
module

public import proofs.«01_k».proof.Proof.Ops3

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 31 → ℕ) (c : Dev nD) [∀ e, Nonempty (Elt F e)]

/-- Products of a pair of blocks added to a half of the result, and the copies of the weights around them. -/
theorem part14 (v2 : BitVec 32) {Q : _ → sProp 𝕄} :
    PC m K ⊢ iprop(owns (c : Thread nD τ) oM fullShare (joinH (acc m c 0 3) (acc m c 1 2)) -∗
      WIdle m c 1 -∗
      Ow c 14 -∗
      cred (tallyAt (dcell c (rSem (og c 4))) () Nx) -∗
      atPos ER (dcell c (rSem (og c 4))) 0 ∅ 0 -∗
      WFly m c 0 (og c 4) -∗
      ((owns (c : Thread nD τ) oM fullShare (joinH (acc m c 0 3) (acc m c 1 3)) ∗ WFly m c 1 (og c 4) ∗ Ow c 14 ∗ atPos ER (dcell c (rSem (og c 4))) 1 ∅ 0 ∗ owns (c : Thread nD τ) (slot (og c 4)) fullShare (xb m (og c 4) c) ∗ WIdle m c 0) -∗ Q (k0_pay14 (upW (wb m c (og c 4) 0))))
      -∗ WP c (k0_part14 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2 (k0_pay13 (upW (wb m c (og c 3) 1)) (upX (xb m (og c 3) c)) (acc m c 1 2))) Q) := by
  rw [k0_part14_eq_skeleton]; unfold k0_part14_skel
  simp only [semSignalWord, semWaitWord, Prog.lift, Prog.bind_op, Prog.bind_ret, Prog.pure_eq_ret, wp_deviceId]
  iintro #HP OUT W1 HO Cr4 Ar4 W0 Hk
  iapply (ld_o1 c (acc m c 0 3) (acc m c 1 2)) $$ OUT
  iintro OUT
  iapply (st_o1 c (acc m c 0 3) (acc m c 1 2) (acc m c 1 3) (pay13_eq _ _ _)) $$ OUT
  iintro OUT
  iapply (op_wstart m c 1 (og c 4) sem_w1 (wblk_eq (off7_eq4 c)) (wslot_eq rfl)) $$ W1
  iintro W1
  iapply (op_rwait m K c 3 4 rfl (sem_r (off9_eq4 c)) (slot_eq (off10_eq4 c))) $$ HP HO Cr4 Ar4
  iintro ⟨HO, S4, Ar4⟩
  iapply (op_wwait m K c 14 0 (og c 4) sem_w0 (wslot_eq rfl)) $$ HP HO W0
  iintro ⟨HO, W0⟩
  iapply (ld_has c m 0 (og c 4) rfl) $$ W0
  iintro W0
  iapply (wret c _)
  iapply Hk
  isplitl [OUT]; · iexact OUT
  isplitl [W1]; · iexact W1
  isplitl [HO]; · iexact HO
  isplitl [Ar4]; · iexact Ar4
  isplitl [S4]; · iexact S4
  iexact W0

/-- Products of a pair of blocks added to a half of the result, and the copies of the weights around them. -/
theorem part15 (v2 : BitVec 32) {Q : _ → sProp 𝕄} :
    PC m K ⊢ iprop(owns (c : Thread nD τ) (slot (og c 4)) fullShare (xb m (og c 4) c) -∗
      owns (c : Thread nD τ) oM fullShare (joinH (acc m c 0 3) (acc m c 1 3)) -∗
      WIdle m c 0 -∗
      Ow c 14 -∗
      WFly m c 1 (og c 4) -∗
      (∀ v : BitVec 32, iprop((owns (c : Thread nD τ) (slot (og c 4)) fullShare (xb m (og c 4) c) ∗ owns (c : Thread nD τ) oM fullShare (joinH (acc m c 0 4) (acc m c 1 3)) ∗ WFly m c 0 (og c 5) ∗ Ow c 14 ∗ WIdle m c 1) -∗ Q ⟨k0_pay16 (upW (wb m c (og c 4) 1)), v⟩))
      -∗ WP c (k0_part15 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2 (k0_pay14 (upW (wb m c (og c 4) 0)))) Q) := by
  rw [k0_part15_eq_skeleton]; unfold k0_part15_skel
  simp only [semSignalWord, semWaitWord, Prog.lift, Prog.bind_op, Prog.bind_ret, Prog.pure_eq_ret, wp_deviceId]
  iintro #HP S4 OUT W0 HO W1 Hk
  iapply (ld_slot c (og c 4) (xb m (og c 4) c) (off8_eq4 c)) $$ S4
  iintro S4
  iapply (ld_o0 c (acc m c 0 3) (acc m c 1 3)) $$ OUT
  iintro OUT
  iapply (ld_o0 c (acc m c 0 3) (acc m c 1 3)) $$ OUT
  iintro OUT
  iapply (st_o0 c (acc m c 0 3) (acc m c 1 3) (acc m c 0 4) (pay15_eq _ _ _)) $$ OUT
  iintro OUT
  iapply (op_wstart m c 0 (og c 5) sem_w0 (wblk_eq (off6_eq5 c)) (wslot_eq rfl)) $$ W0
  iintro W0
  iapply (op_wwait m K c 14 1 (og c 4) sem_w1 (wslot_eq rfl)) $$ HP HO W1
  iintro ⟨HO, W1⟩
  iapply (ld_has c m 1 (og c 4) rfl) $$ W1
  iintro W1
  iapply (wret c _)
  iapply Hk
  isplitl [S4]; · iexact S4
  isplitl [OUT]; · iexact OUT
  isplitl [W0]; · iexact W0
  isplitl [HO]; · iexact HO
  iexact W1

/-- Products of a pair of blocks added to a half of the result, and the copies of the weights around them. -/
theorem part16 (v2 v436 : BitVec 32) {Q : _ → sProp 𝕄} :
    PC m K ⊢ iprop(owns (c : Thread nD τ) (slot (og c 4)) fullShare (xb m (og c 4) c) -∗
      owns (c : Thread nD τ) oM fullShare (joinH (acc m c 0 4) (acc m c 1 3)) -∗
      WIdle m c 1 -∗
      Ow c 14 -∗
      cred (tallyAt (dcell c (rSem (og c 5))) () Nx) -∗
      atPos ER (dcell c (rSem (og c 5))) 0 ∅ 0 -∗
      ((owns (c : Thread nD τ) (slot (og c 4)) fullShare (xb m (og c 4) c) ∗ owns (c : Thread nD τ) oM fullShare (joinH (acc m c 0 4) (acc m c 1 4)) ∗ WFly m c 1 (og c 5) ∗ Ow c 14 ∗ atPos ER (dcell c (rSem (og c 5))) 1 ∅ 0 ∗ owns (c : Thread nD τ) (slot (og c 5)) fullShare (xb m (og c 5) c)) -∗ Q ⟨⟩)
      -∗ WP c (k0_part16 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2 (k0_pay16 (upW (wb m c (og c 4) 1))) v436) Q) := by
  rw [k0_part16_eq_skeleton]; unfold k0_part16_skel
  simp only [semSignalWord, semWaitWord, Prog.lift, Prog.bind_op, Prog.bind_ret, Prog.pure_eq_ret, wp_deviceId]
  iintro #HP S4 OUT W1 HO Cr5 Ar5 Hk
  iapply (ld_slot c (og c 4) (xb m (og c 4) c) (off8_eq4 c)) $$ S4
  iintro S4
  iapply (ld_o1 c (acc m c 0 4) (acc m c 1 3)) $$ OUT
  iintro OUT
  iapply (ld_o1 c (acc m c 0 4) (acc m c 1 3)) $$ OUT
  iintro OUT
  iapply (st_o1 c (acc m c 0 4) (acc m c 1 3) (acc m c 1 4) (pay17_eq _ _ _)) $$ OUT
  iintro OUT
  iapply (op_wstart m c 1 (og c 5) sem_w1 (wblk_eq (off7_eq5 c)) (wslot_eq rfl)) $$ W1
  iintro W1
  iapply (op_rwait m K c 4 5 rfl (sem_r (off9_eq5 c)) (slot_eq (off10_eq5 c))) $$ HP HO Cr5 Ar5
  iintro ⟨HO, S5, Ar5⟩
  iapply (wret c _)
  iapply Hk
  isplitl [S4]; · iexact S4
  isplitl [OUT]; · iexact OUT
  isplitl [W1]; · iexact W1
  isplitl [HO]; · iexact HO
  isplitl [Ar5]; · iexact Ar5
  iexact S5

/-- Products of a pair of blocks added to a half of the result, and the copies of the weights around them. -/
theorem part17 (v2 : BitVec 32) {Q : _ → sProp 𝕄} :
    PC m K ⊢ iprop(Ow c 14 -∗
      WFly m c 0 (og c 5) -∗
      owns (c : Thread nD τ) (slot (og c 5)) fullShare (xb m (og c 5) c) -∗
      owns (c : Thread nD τ) oM fullShare (joinH (acc m c 0 4) (acc m c 1 4)) -∗
      ((Ow c 14 ∗ WFly m c 0 (og c 6) ∗ owns (c : Thread nD τ) (slot (og c 5)) fullShare (xb m (og c 5) c) ∗ owns (c : Thread nD τ) oM fullShare (joinH (acc m c 0 5) (acc m c 1 4))) -∗ Q ⟨⟩)
      -∗ WP c (k0_part17 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2) Q) := by
  rw [k0_part17_eq_skeleton]; unfold k0_part17_skel
  simp only [semSignalWord, semWaitWord, Prog.lift, Prog.bind_op, Prog.bind_ret, Prog.pure_eq_ret, wp_deviceId]
  iintro #HP HO W0 S5 OUT Hk
  iapply (op_wwait m K c 14 0 (og c 5) sem_w0 (wslot_eq rfl)) $$ HP HO W0
  iintro ⟨HO, W0⟩
  iapply (ld_has c m 0 (og c 5) rfl) $$ W0
  iintro W0
  iapply (ld_slot c (og c 5) (xb m (og c 5) c) (off8_eq5 c)) $$ S5
  iintro S5
  iapply (ld_o0 c (acc m c 0 4) (acc m c 1 4)) $$ OUT
  iintro OUT
  iapply (ld_o0 c (acc m c 0 4) (acc m c 1 4)) $$ OUT
  iintro OUT
  iapply (st_o0 c (acc m c 0 4) (acc m c 1 4) (acc m c 0 5) (pay18_eq _ _ _)) $$ OUT
  iintro OUT
  iapply (op_wstart m c 0 (og c 6) sem_w0 (wblk_eq (off6_eq6 c)) (wslot_eq rfl)) $$ W0
  iintro W0
  iapply (wret c _)
  iapply Hk
  isplitl [HO]; · iexact HO
  isplitl [W0]; · iexact W0
  isplitl [S5]; · iexact S5
  iexact OUT

/-- Products of a pair of blocks added to a half of the result, and the copies of the weights around them. -/
theorem part18 (v2 : BitVec 32) {Q : _ → sProp 𝕄} :
    PC m K ⊢ iprop(Ow c 14 -∗
      WFly m c 1 (og c 5) -∗
      owns (c : Thread nD τ) (slot (og c 5)) fullShare (xb m (og c 5) c) -∗
      owns (c : Thread nD τ) oM fullShare (joinH (acc m c 0 5) (acc m c 1 4)) -∗
      (∀ v : BitVec 32, iprop((Ow c 14 ∗ WFly m c 1 (og c 6) ∗ owns (c : Thread nD τ) (slot (og c 5)) fullShare (xb m (og c 5) c) ∗ owns (c : Thread nD τ) oM fullShare (joinH (acc m c 0 5) (acc m c 1 5))) -∗ Q v))
      -∗ WP c (k0_part18 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2) Q) := by
  rw [k0_part18_eq_skeleton]; unfold k0_part18_skel
  simp only [semSignalWord, semWaitWord, Prog.lift, Prog.bind_op, Prog.bind_ret, Prog.pure_eq_ret, wp_deviceId]
  iintro #HP HO W1 S5 OUT Hk
  iapply (op_wwait m K c 14 1 (og c 5) sem_w1 (wslot_eq rfl)) $$ HP HO W1
  iintro ⟨HO, W1⟩
  iapply (ld_has c m 1 (og c 5) rfl) $$ W1
  iintro W1
  iapply (ld_slot c (og c 5) (xb m (og c 5) c) (off8_eq5 c)) $$ S5
  iintro S5
  iapply (ld_o1 c (acc m c 0 5) (acc m c 1 4)) $$ OUT
  iintro OUT
  iapply (ld_o1 c (acc m c 0 5) (acc m c 1 4)) $$ OUT
  iintro OUT
  iapply (st_o1 c (acc m c 0 5) (acc m c 1 4) (acc m c 1 5) (pay19_eq _ _ _)) $$ OUT
  iintro OUT
  iapply (op_wstart m c 1 (og c 6) sem_w1 (wblk_eq (off7_eq6 c)) (wslot_eq rfl)) $$ W1
  iintro W1
  iapply (wret c _)
  iapply Hk
  isplitl [HO]; · iexact HO
  isplitl [W1]; · iexact W1
  isplitl [S5]; · iexact S5
  iexact OUT

/-- Products of a pair of blocks added to a half of the result, and the copies of the weights around them. -/
theorem part19 (v2 v523 : BitVec 32) {Q : _ → sProp 𝕄} :
    PC m K ⊢ iprop(Ow c 14 -∗
      cred (tallyAt (dcell c (rSem (og c 6))) () Nx) -∗
      atPos ER (dcell c (rSem (og c 6))) 0 ∅ 0 -∗
      WFly m c 0 (og c 6) -∗
      owns (c : Thread nD τ) oM fullShare (joinH (acc m c 0 5) (acc m c 1 5)) -∗
      (∀ v : BitVec 32, iprop((Ow c 14 ∗ atPos ER (dcell c (rSem (og c 6))) 1 ∅ 0 ∗ owns (c : Thread nD τ) (slot (og c 6)) fullShare (xb m (og c 6) c) ∗ WIdle m c 0 ∗ owns (c : Thread nD τ) oM fullShare (joinH (acc m c 0 6) (acc m c 1 5))) -∗ Q v))
      -∗ WP c (k0_part19 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2 v523) Q) := by
  rw [k0_part19_eq_skeleton]; unfold k0_part19_skel
  simp only [semSignalWord, semWaitWord, Prog.lift, Prog.bind_op, Prog.bind_ret, Prog.pure_eq_ret, wp_deviceId]
  iintro #HP HO Cr6 Ar6 W0 OUT Hk
  iapply (op_rwait m K c 5 6 rfl (sem_r (off9_eq6 c)) (slot_eq (off10_eq6 c))) $$ HP HO Cr6 Ar6
  iintro ⟨HO, S6, Ar6⟩
  iapply (op_wwait m K c 14 0 (og c 6) sem_w0 (wslot_eq rfl)) $$ HP HO W0
  iintro ⟨HO, W0⟩
  iapply (ld_has c m 0 (og c 6) rfl) $$ W0
  iintro W0
  iapply (ld_slot c (og c 6) (xb m (og c 6) c) (off8_eq6 c)) $$ S6
  iintro S6
  iapply (ld_o0 c (acc m c 0 5) (acc m c 1 5)) $$ OUT
  iintro OUT
  iapply (ld_o0 c (acc m c 0 5) (acc m c 1 5)) $$ OUT
  iintro OUT
  iapply (st_o0 c (acc m c 0 5) (acc m c 1 5) (acc m c 0 6) (pay20_eq _ _ _)) $$ OUT
  iintro OUT
  iapply (wret c _)
  iapply Hk
  isplitl [HO]; · iexact HO
  isplitl [Ar6]; · iexact Ar6
  isplitl [S6]; · iexact S6
  isplitl [W0]; · iexact W0
  iexact OUT

/-- Products of a pair of blocks added to a half of the result, and the copies of the weights around them. -/
theorem part20 (v2 v552 : BitVec 32) {Q : _ → sProp 𝕄} :
    PC m K ⊢ iprop(WIdle m c 0 -∗
      Ow c 14 -∗
      WFly m c 1 (og c 6) -∗
      owns (c : Thread nD τ) (slot (og c 6)) fullShare (xb m (og c 6) c) -∗
      owns (c : Thread nD τ) oM fullShare (joinH (acc m c 0 6) (acc m c 1 5)) -∗
      (∀ v : BitVec 32, iprop((WFly m c 0 (og c 7) ∗ Ow c 14 ∗ WIdle m c 1 ∗ owns (c : Thread nD τ) (slot (og c 6)) fullShare (xb m (og c 6) c) ∗ owns (c : Thread nD τ) oM fullShare (joinH (acc m c 0 6) (acc m c 1 6))) -∗ Q v))
      -∗ WP c (k0_part20 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2 v552) Q) := by
  rw [k0_part20_eq_skeleton]; unfold k0_part20_skel
  simp only [semSignalWord, semWaitWord, Prog.lift, Prog.bind_op, Prog.bind_ret, Prog.pure_eq_ret, wp_deviceId]
  iintro #HP W0 HO W1 S6 OUT Hk
  iapply (op_wstart m c 0 (og c 7) sem_w0 (wblk_eq (off6_eq7 c)) (wslot_eq rfl)) $$ W0
  iintro W0
  iapply (op_wwait m K c 14 1 (og c 6) sem_w1 (wslot_eq rfl)) $$ HP HO W1
  iintro ⟨HO, W1⟩
  iapply (ld_has c m 1 (og c 6) rfl) $$ W1
  iintro W1
  iapply (ld_slot c (og c 6) (xb m (og c 6) c) (off8_eq6 c)) $$ S6
  iintro S6
  iapply (ld_o1 c (acc m c 0 6) (acc m c 1 5)) $$ OUT
  iintro OUT
  iapply (ld_o1 c (acc m c 0 6) (acc m c 1 5)) $$ OUT
  iintro OUT
  iapply (st_o1 c (acc m c 0 6) (acc m c 1 5) (acc m c 1 6) (pay21_eq _ _ _)) $$ OUT
  iintro OUT
  iapply (wret c _)
  iapply Hk
  isplitl [W0]; · iexact W0
  isplitl [HO]; · iexact HO
  isplitl [W1]; · iexact W1
  isplitl [S6]; · iexact S6
  iexact OUT

/-- Products of a pair of blocks added to a half of the result, and the copies of the weights around them. -/
theorem part21 (v2 v581 : BitVec 32) {Q : _ → sProp 𝕄} :
    PC m K ⊢ iprop(WIdle m c 1 -∗
      Ow c 14 -∗
      cred (tallyAt (dcell c (rSem (og c 7))) () Nx) -∗
      atPos ER (dcell c (rSem (og c 7))) 0 ∅ 0 -∗
      WFly m c 0 (og c 7) -∗
      ((WFly m c 1 (og c 7) ∗ Ow c 14 ∗ atPos ER (dcell c (rSem (og c 7))) 1 ∅ 0 ∗ owns (c : Thread nD τ) (slot (og c 7)) fullShare (xb m (og c 7) c) ∗ WIdle m c 0) -∗ Q (k0_pay22 (upW (wb m c (og c 7) 0))))
      -∗ WP c (k0_part21 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2 v581) Q) := by
  rw [k0_part21_eq_skeleton]; unfold k0_part21_skel
  simp only [semSignalWord, semWaitWord, Prog.lift, Prog.bind_op, Prog.bind_ret, Prog.pure_eq_ret, wp_deviceId]
  iintro #HP W1 HO Cr7 Ar7 W0 Hk
  iapply (op_wstart m c 1 (og c 7) sem_w1 (wblk_eq (off7_eq7 c)) (wslot_eq rfl)) $$ W1
  iintro W1
  iapply (op_rwait m K c 6 7 rfl (sem_r (off9_eq7 c)) (slot_eq (off10_eq7 c))) $$ HP HO Cr7 Ar7
  iintro ⟨HO, S7, Ar7⟩
  iapply (op_wwait m K c 14 0 (og c 7) sem_w0 (wslot_eq rfl)) $$ HP HO W0
  iintro ⟨HO, W0⟩
  iapply (ld_has c m 0 (og c 7) rfl) $$ W0
  iintro W0
  iapply (wret c _)
  iapply Hk
  isplitl [W1]; · iexact W1
  isplitl [HO]; · iexact HO
  isplitl [Ar7]; · iexact Ar7
  isplitl [S7]; · iexact S7
  iexact W0

/-- Products of a pair of blocks added to a half of the result, and the copies of the weights around them. -/
theorem part22 (v2 : BitVec 32) {Q : _ → sProp 𝕄} :
    PC m K ⊢ iprop(owns (c : Thread nD τ) (slot (og c 7)) fullShare (xb m (og c 7) c) -∗
      owns (c : Thread nD τ) oM fullShare (joinH (acc m c 0 6) (acc m c 1 6)) -∗
      Ow c 14 -∗
      WFly m c 1 (og c 7) -∗
      ((owns (c : Thread nD τ) (slot (og c 7)) fullShare (xb m (og c 7) c) ∗ owns (c : Thread nD τ) oM fullShare (joinH (acc m c 0 7) (acc m c 1 7)) ∗ Ow c 14 ∗ WIdle m c 1) -∗ Q (ry m c))
      -∗ WP c (k0_part22 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2 (k0_pay22 (upW (wb m c (og c 7) 0)))) Q) := by
  rw [k0_part22_eq_skeleton]; unfold k0_part22_skel
  simp only [semSignalWord, semWaitWord, Prog.lift, Prog.bind_op, Prog.bind_ret, Prog.pure_eq_ret, wp_deviceId]
  iintro #HP S7 OUT HO W1 Hk
  iapply (ld_slot c (og c 7) (xb m (og c 7) c) (off8_eq7 c)) $$ S7
  iintro S7
  iapply (ld_o0 c (acc m c 0 6) (acc m c 1 6)) $$ OUT
  iintro OUT
  iapply (ld_o0 c (acc m c 0 6) (acc m c 1 6)) $$ OUT
  iintro OUT
  iapply (st_o0 c (acc m c 0 6) (acc m c 1 6) (acc m c 0 7) (pay23_eq _ _ _)) $$ OUT
  iintro OUT
  iapply (op_wwait m K c 14 1 (og c 7) sem_w1 (wslot_eq rfl)) $$ HP HO W1
  iintro ⟨HO, W1⟩
  iapply (ld_has c m 1 (og c 7) rfl) $$ W1
  iintro W1
  iapply (ld_slot c (og c 7) (xb m (og c 7) c) (off8_eq7 c)) $$ S7
  iintro S7
  iapply (ld_o1 c (acc m c 0 7) (acc m c 1 6)) $$ OUT
  iintro OUT
  iapply (ld_o1 c (acc m c 0 7) (acc m c 1 6)) $$ OUT
  iintro OUT
  iapply (st_o1 c (acc m c 0 7) (acc m c 1 6) (acc m c 1 7) (pay24_eq _ _ _)) $$ OUT
  iintro OUT
  iapply (ld_o c _) $$ OUT
  iintro OUT
  iapply (wret c _)
  iapply Hk
  isplitl [S7]; · iexact S7
  isplitl [OUT]; · iexact OUT
  isplitl [HO]; · iexact HO
  iexact W1

end Cert.Exchange

end
-- ==== Proof.PartsD.lean ====
/-
The kernel's parts after the product: the maxima, the quantiser, the closing waits.
-/
module

public import proofs.«01_k».proof.Proof.Rows

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 31 → ℕ) (c : Dev nD) [∀ e, Nonempty (Elt F e)]

/-- The rectified block stored, its largest entry's row stored, two maxima sent. -/
theorem part23 (v2 : BitVec 32) (A : Vec F S1x128 .f32) {Q : _ → sProp 𝕄} :
    PC m K ⊢ iprop(owns (c : Thread nD τ) oM fullShare (joinH (acc m c 0 7) (acc m c 1 7)) -∗
      owns (c : Thread nD τ) (arow c) fullShare A -∗
      Ow c 14 -∗
      (∃ X, owns (pe c 1 : Thread nD τ) (arow c) fullShare X) -∗
      dutyTok ER (dcell c (tSem 0)) 0 0 -∗
      dutyTok ER (dcell (pe c 1) (zSem c)) 0 0 -∗
      (∃ X, owns (pe c 2 : Thread nD τ) (arow c) fullShare X) -∗
      dutyTok ER (dcell c (tSem 1)) 0 0 -∗
      dutyTok ER (dcell (pe c 2) (zSem c)) 0 0 -∗
      (∀ v : BitVec 32, iprop((owns (c : Thread nD τ) oM fullShare (ry m c) ∗ owns (c : Thread nD τ) (arow c) (rsh 2) (am m c) ∗ Ow c 16 ∗ cred (tallyAt (dcell c (tSem 0)) () Na) ∗ cred (tallyAt (dcell c (tSem 1)) () Na)) -∗ Q v))
      -∗ WP c (k0_part23 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2 (ry m c)) Q) := by
  rw [k0_part23_eq_skeleton]; unfold k0_part23_skel
  simp only [semSignalWord, semWaitWord, Prog.lift, Prog.bind_op, Prog.bind_ret, Prog.pure_eq_ret, wp_deviceId]
  iintro #HP OUT AO HO E1 Tt0 Tz1 E2 Tt1 Tz2 Hk
  iapply (ld_o c _) $$ OUT
  iintro OUT
  iapply (st_o c _) $$ OUT
  iintro OUT
  iapply (ld_o c _) $$ OUT
  iintro OUT
  iapply (ld_arow c c A (off11_eq c)) $$ AO
  iintro AO
  iapply (st_arow c c A (off11_eq c)) $$ AO
  iintro AO
  ihave AO := (show (owns (c : Thread nD τ) (arow c) fullShare (am m c) : sProp 𝕄) ⊢ owns (c : Thread nD τ) (arow c) (rsh 0) (am m c) from .rfl) $$ AO
  iapply (op_tsend m K c 0 1 rfl 14 rfl 0 rfl (dev15_eq c) (arow_eq (off12_eq c)) (arow_eq (off12_eq c)) sem_t0 (sem_z (off1_eq c)) rfl) $$ HP HO AO E1 Tt0 Tz1
  iintro ⟨Ct0, HO, AO⟩
  iapply (op_tsend m K c 1 2 rfl 15 rfl 1 rfl (dev16_eq c) (arow_eq (off12_eq c)) (arow_eq (off12_eq c)) sem_t1 (sem_z (off1_eq c)) rfl) $$ HP HO AO E2 Tt1 Tz2
  iintro ⟨Ct1, HO, AO⟩
  iapply (wret c _)
  iapply Hk
  isplitl [OUT]; · iexact OUT
  isplitl [AO]; · iexact AO
  isplitl [HO]; · iexact HO
  isplitl [Ct0]; · iexact Ct0
  iexact Ct1

/-- Three maxima sent. -/
theorem part24 (v2 v673 : BitVec 32) {Q : _ → sProp 𝕄} :
    PC m K ⊢ iprop(Ow c 16 -∗
      owns (c : Thread nD τ) (arow c) (rsh 2) (am m c) -∗
      (∃ X, owns (pe c 3 : Thread nD τ) (arow c) fullShare X) -∗
      dutyTok ER (dcell c (tSem 2)) 0 0 -∗
      dutyTok ER (dcell (pe c 3) (zSem c)) 0 0 -∗
      (∃ X, owns (pe c 4 : Thread nD τ) (arow c) fullShare X) -∗
      dutyTok ER (dcell c (tSem 3)) 0 0 -∗
      dutyTok ER (dcell (pe c 4) (zSem c)) 0 0 -∗
      (∃ X, owns (pe c 5 : Thread nD τ) (arow c) fullShare X) -∗
      dutyTok ER (dcell c (tSem 4)) 0 0 -∗
      dutyTok ER (dcell (pe c 5) (zSem c)) 0 0 -∗
      ((Ow c 19 ∗ owns (c : Thread nD τ) (arow c) (rsh 5) (am m c) ∗ cred (tallyAt (dcell c (tSem 2)) () Na) ∗ cred (tallyAt (dcell c (tSem 3)) () Na) ∗ cred (tallyAt (dcell c (tSem 4)) () Na)) -∗ Q ⟨⟩)
      -∗ WP c (k0_part24 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2 v673) Q) := by
  rw [k0_part24_eq_skeleton]; unfold k0_part24_skel
  simp only [semSignalWord, semWaitWord, Prog.lift, Prog.bind_op, Prog.bind_ret, Prog.pure_eq_ret, wp_deviceId]
  iintro #HP HO AO E3 Tt2 Tz3 E4 Tt3 Tz4 E5 Tt4 Tz5 Hk
  iapply (op_tsend m K c 2 3 rfl 16 rfl 2 rfl (dev17_eq c) (arow_eq (off12_eq c)) (arow_eq (off12_eq c)) sem_t2 (sem_z (off1_eq c)) rfl) $$ HP HO AO E3 Tt2 Tz3
  iintro ⟨Ct2, HO, AO⟩
  iapply (op_tsend m K c 3 4 rfl 17 rfl 3 rfl (dev18_eq c) (arow_eq (off12_eq c)) (arow_eq (off12_eq c)) sem_t3 (sem_z (off1_eq c)) rfl) $$ HP HO AO E4 Tt3 Tz4
  iintro ⟨Ct3, HO, AO⟩
  iapply (op_tsend m K c 4 5 rfl 18 rfl 4 rfl (dev19_eq c) (arow_eq (off12_eq c)) (arow_eq (off12_eq c)) sem_t4 (sem_z (off1_eq c)) rfl) $$ HP HO AO E5 Tt4 Tz5
  iintro ⟨Ct4, HO, AO⟩
  iapply (wret c _)
  iapply Hk
  isplitl [HO]; · iexact HO
  isplitl [AO]; · iexact AO
  isplitl [Ct2]; · iexact Ct2
  isplitl [Ct3]; · iexact Ct3
  iexact Ct4

/-- The last two maxima sent, the first received. -/
theorem part25 (v2 : BitVec 32) {Q : _ → sProp 𝕄} :
    PC m K ⊢ iprop(Ow c 19 -∗
      owns (c : Thread nD τ) (arow c) (rsh 5) (am m c) -∗
      (∃ X, owns (pe c 6 : Thread nD τ) (arow c) fullShare X) -∗
      dutyTok ER (dcell c (tSem 5)) 0 0 -∗
      dutyTok ER (dcell (pe c 6) (zSem c)) 0 0 -∗
      (∃ X, owns (pe c 7 : Thread nD τ) (arow c) fullShare X) -∗
      dutyTok ER (dcell c (tSem 6)) 0 0 -∗
      dutyTok ER (dcell (pe c 7) (zSem c)) 0 0 -∗
      cred (tallyAt (dcell c (zSem (og c 1))) () Na) -∗
      atPos ER (dcell c (zSem (og c 1))) 0 ∅ 0 -∗
      ((Ow c 21 ∗ owns (c : Thread nD τ) (arow c) (rsh 7) (am m c) ∗ cred (tallyAt (dcell c (tSem 5)) () Na) ∗ cred (tallyAt (dcell c (tSem 6)) () Na) ∗ atPos ER (dcell c (zSem (og c 1))) 1 ∅ 0 ∗ owns (c : Thread nD τ) (arow (og c 1)) fullShare (am m (og c 1))) -∗ Q ⟨⟩)
      -∗ WP c (k0_part25 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2) Q) := by
  rw [k0_part25_eq_skeleton]; unfold k0_part25_skel
  simp only [semSignalWord, semWaitWord, Prog.lift, Prog.bind_op, Prog.bind_ret, Prog.pure_eq_ret, wp_deviceId]
  iintro #HP HO AO E6 Tt5 Tz6 E7 Tt6 Tz7 Cz1 Az1 Hk
  iapply (op_tsend m K c 5 6 rfl 19 rfl 5 rfl (dev20_eq c) (arow_eq (off12_eq c)) (arow_eq (off12_eq c)) sem_t5 (sem_z (off1_eq c)) rfl) $$ HP HO AO E6 Tt5 Tz6
  iintro ⟨Ct5, HO, AO⟩
  iapply (op_tsend m K c 6 7 rfl 20 rfl 6 rfl (dev21_eq c) (arow_eq (off12_eq c)) (arow_eq (off12_eq c)) sem_t6 (sem_z (off1_eq c)) rfl) $$ HP HO AO E7 Tt6 Tz7
  iintro ⟨Ct6, HO, AO⟩
  iapply (op_zwait m K c 0 1 rfl (sem_z (off9_eq1 c)) (arow_eq (off13_eq1 c))) $$ HP HO Cz1 Az1
  iintro ⟨HO, R1, Az1⟩
  iapply (wret c _)
  iapply Hk
  isplitl [HO]; · iexact HO
  isplitl [AO]; · iexact AO
  isplitl [Ct5]; · iexact Ct5
  isplitl [Ct6]; · iexact Ct6
  isplitl [Az1]; · iexact Az1
  iexact R1

/-- Four maxima received. -/
theorem part26 (v2 : BitVec 32) {Q : _ → sProp 𝕄} :
    PC m K ⊢ iprop(Ow c 21 -∗
      cred (tallyAt (dcell c (zSem (og c 2))) () Na) -∗
      atPos ER (dcell c (zSem (og c 2))) 0 ∅ 0 -∗
      cred (tallyAt (dcell c (zSem (og c 3))) () Na) -∗
      atPos ER (dcell c (zSem (og c 3))) 0 ∅ 0 -∗
      cred (tallyAt (dcell c (zSem (og c 4))) () Na) -∗
      atPos ER (dcell c (zSem (og c 4))) 0 ∅ 0 -∗
      cred (tallyAt (dcell c (zSem (og c 5))) () Na) -∗
      atPos ER (dcell c (zSem (og c 5))) 0 ∅ 0 -∗
      (∀ v : BitVec 32, ∀ w : BitVec 32, iprop((Ow c 21 ∗ atPos ER (dcell c (zSem (og c 2))) 1 ∅ 0 ∗ owns (c : Thread nD τ) (arow (og c 2)) fullShare (am m (og c 2)) ∗ atPos ER (dcell c (zSem (og c 3))) 1 ∅ 0 ∗ owns (c : Thread nD τ) (arow (og c 3)) fullShare (am m (og c 3)) ∗ atPos ER (dcell c (zSem (og c 4))) 1 ∅ 0 ∗ owns (c : Thread nD τ) (arow (og c 4)) fullShare (am m (og c 4)) ∗ atPos ER (dcell c (zSem (og c 5))) 1 ∅ 0 ∗ owns (c : Thread nD τ) (arow (og c 5)) fullShare (am m (og c 5))) -∗ Q ⟨v, w⟩))
      -∗ WP c (k0_part26 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2) Q) := by
  rw [k0_part26_eq_skeleton]; unfold k0_part26_skel
  simp only [semSignalWord, semWaitWord, Prog.lift, Prog.bind_op, Prog.bind_ret, Prog.pure_eq_ret, wp_deviceId]
  iintro #HP HO Cz2 Az2 Cz3 Az3 Cz4 Az4 Cz5 Az5 Hk
  iapply (op_zwait m K c 1 2 rfl (sem_z (off9_eq2 c)) (arow_eq (off13_eq2 c))) $$ HP HO Cz2 Az2
  iintro ⟨HO, R2, Az2⟩
  iapply (op_zwait m K c 2 3 rfl (sem_z (off9_eq3 c)) (arow_eq (off13_eq3 c))) $$ HP HO Cz3 Az3
  iintro ⟨HO, R3, Az3⟩
  iapply (op_zwait m K c 3 4 rfl (sem_z (off9_eq4 c)) (arow_eq (off13_eq4 c))) $$ HP HO Cz4 Az4
  iintro ⟨HO, R4, Az4⟩
  iapply (op_zwait m K c 4 5 rfl (sem_z (off9_eq5 c)) (arow_eq (off13_eq5 c))) $$ HP HO Cz5 Az5
  iintro ⟨HO, R5, Az5⟩
  iapply (wret c _)
  iapply Hk
  isplitl [HO]; · iexact HO
  isplitl [Az2]; · iexact Az2
  isplitl [R2]; · iexact R2
  isplitl [Az3]; · iexact Az3
  isplitl [R3]; · iexact R3
  isplitl [Az4]; · iexact Az4
  isplitl [R4]; · iexact R4
  isplitl [Az5]; · iexact Az5
  iexact R5

/-- The last two maxima received; all rows read; the left half quantised. -/
theorem part27 (v2 v768 c8 : BitVec 32) {Q : _ → sProp 𝕄} :
    PC m K ⊢ iprop(Ow c 21 -∗
      cred (tallyAt (dcell c (zSem (og c 6))) () Na) -∗
      atPos ER (dcell c (zSem (og c 6))) 0 ∅ 0 -∗
      cred (tallyAt (dcell c (zSem (og c 7))) () Na) -∗
      atPos ER (dcell c (zSem (og c 7))) 0 ∅ 0 -∗
      owns (c : Thread nD τ) (arow (og c 1)) fullShare (am m (og c 1)) -∗
      owns (c : Thread nD τ) (arow (og c 2)) fullShare (am m (og c 2)) -∗
      owns (c : Thread nD τ) (arow (og c 3)) fullShare (am m (og c 3)) -∗
      owns (c : Thread nD τ) (arow (og c 4)) fullShare (am m (og c 4)) -∗
      owns (c : Thread nD τ) (arow (og c 5)) fullShare (am m (og c 5)) -∗
      owns (c : Thread nD τ) (arow c) (rsh 7) (am m c) -∗
      owns (c : Thread nD τ) oM fullShare (ry m c) -∗
      ((Ow c 21 ∗ atPos ER (dcell c (zSem (og c 6))) 1 ∅ 0 ∗ atPos ER (dcell c (zSem (og c 7))) 1 ∅ 0 ∗ owns (c : Thread nD τ) aM (rsh 7) (amall m) ∗ rowsLeft m c ∗ owns (c : Thread nD τ) oM fullShare (joinH (k0_pay28 (amall m) (fun j => ry m c ((oR 0).emb j))) (fun j => ry m c ((oR 1).emb j)))) -∗ Q ⟨k0_pay27 (amall m), k0_pay29 (fun j => ry m c ((oR 1).emb j)), k0_pay30 (amall m)⟩)
      -∗ WP c (k0_part27 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c v2 v768 c8) Q) := by
  rw [k0_part27_eq_skeleton]; unfold k0_part27_skel
  simp only [semSignalWord, semWaitWord, Prog.lift, Prog.bind_op, Prog.bind_ret, Prog.pure_eq_ret, wp_deviceId]
  iintro #HP HO Cz6 Az6 Cz7 Az7 R1 R2 R3 R4 R5 AO OUT Hk
  iapply (op_zwait m K c 5 6 rfl (sem_z (off9_eq6 c)) (arow_eq (off13_eq6 c))) $$ HP HO Cz6 Az6
  iintro ⟨HO, R6, Az6⟩
  iapply (op_zwait m K c 6 7 rfl (sem_z (off9_eq7 c)) (arow_eq (off13_eq7 c))) $$ HP HO Cz7 Az7
  iintro ⟨HO, R7, Az7⟩
  ihave HG := (rows_gather m c) $$ [AO R1 R2 R3 R4 R5 R6 R7]
  · isplitl [AO]; · iexact AO
    isplitl [R1]; · iexact R1
    isplitl [R2]; · iexact R2
    isplitl [R3]; · iexact R3
    isplitl [R4]; · iexact R4
    isplitl [R5]; · iexact R5
    isplitl [R6]; · iexact R6
    iexact R7
  icases HG with ⟨AM, AR⟩
  iapply (ld_a c (rsh 7) (amall m)) $$ AM
  iintro AM
  ihave OUT := (Entails.of_eq (congrArg (owns (c : Thread nD τ) oM fullShare) (join_self (ry m c)).symm)) $$ OUT
  iapply (ld_o0 c (fun j => ry m c ((oR 0).emb j)) (fun j => ry m c ((oR 1).emb j))) $$ OUT
  iintro OUT
  iapply (ld_o0 c (fun j => ry m c ((oR 0).emb j)) (fun j => ry m c ((oR 1).emb j))) $$ OUT
  iintro OUT
  iapply (st_o0 c (fun j => ry m c ((oR 0).emb j)) (fun j => ry m c ((oR 1).emb j)) (k0_pay28 (amall m) (fun j => ry m c ((oR 0).emb j))) rfl) $$ OUT
  iintro OUT
  iapply (ld_o1 c (k0_pay28 (amall m) (fun j => ry m c ((oR 0).emb j))) (fun j => ry m c ((oR 1).emb j))) $$ OUT
  iintro OUT
  iapply (wret c _)
  iapply Hk
  isplitl [HO]; · iexact HO
  isplitl [Az6]; · iexact Az6
  isplitl [Az7]; · iexact Az7
  isplitl [AM]; · iexact AM
  isplitl [AR]; · iexact AR
  iexact OUT

/-- The right half quantised; four blocks' sends waited for. -/
theorem part28 {Q : _ → sProp 𝕄} :
    PC m K ⊢ iprop(owns (c : Thread nD τ) oM fullShare (joinH (k0_pay28 (amall m) (fun j => ry m c ((oR 0).emb j))) (fun j => ry m c ((oR 1).emb j))) -∗
      Ow c 21 -∗
      cred (tallyAt (dcell c (sSem 0)) () Nx) -∗
      atPos ER (dcell c (sSem 0)) 0 ∅ 0 -∗
      cred (tallyAt (dcell c (sSem 1)) () Nx) -∗
      atPos ER (dcell c (sSem 1)) 0 ∅ 0 -∗
      cred (tallyAt (dcell c (sSem 2)) () Nx) -∗
      atPos ER (dcell c (sSem 2)) 0 ∅ 0 -∗
      cred (tallyAt (dcell c (sSem 3)) () Nx) -∗
      atPos ER (dcell c (sSem 3)) 0 ∅ 0 -∗
      ((owns (c : Thread nD τ) oM fullShare (joinH (k0_pay28 (amall m) (fun j => ry m c ((oR 0).emb j))) (k0_pay31 (k0_pay27 (amall m)) (k0_pay29 (fun j => ry m c ((oR 1).emb j))) (k0_pay30 (amall m)))) ∗ Ow c 21 ∗ atPos ER (dcell c (sSem 0)) 1 ∅ 0 ∗ owns (c : Thread nD τ) (xrow (pe c 1)) fullShare (xb m c (pe c 1)) ∗ atPos ER (dcell c (sSem 1)) 1 ∅ 0 ∗ owns (c : Thread nD τ) (xrow (pe c 2)) fullShare (xb m c (pe c 2)) ∗ atPos ER (dcell c (sSem 2)) 1 ∅ 0 ∗ owns (c : Thread nD τ) (xrow (pe c 3)) fullShare (xb m c (pe c 3)) ∗ atPos ER (dcell c (sSem 3)) 1 ∅ 0 ∗ owns (c : Thread nD τ) (xrow (pe c 4)) fullShare (xb m c (pe c 4))) -∗ Q ⟨⟩)
      -∗ WP c (k0_part28 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c (k0_pay27 (amall m)) (k0_pay29 (fun j => ry m c ((oR 1).emb j))) (k0_pay30 (amall m))) Q) := by
  rw [k0_part28_eq_skeleton]; unfold k0_part28_skel
  simp only [semSignalWord, semWaitWord, Prog.lift, Prog.bind_op, Prog.bind_ret, Prog.pure_eq_ret, wp_deviceId]
  iintro #HP OUT HO Cs0 As0 Cs1 As1 Cs2 As2 Cs3 As3 Hk
  iapply (ld_o1 c (k0_pay28 (amall m) (fun j => ry m c ((oR 0).emb j))) (fun j => ry m c ((oR 1).emb j))) $$ OUT
  iintro OUT
  iapply (st_o1 c (k0_pay28 (amall m) (fun j => ry m c ((oR 0).emb j))) (fun j => ry m c ((oR 1).emb j)) (k0_pay31 (k0_pay27 (amall m)) (k0_pay29 (fun j => ry m c ((oR 1).emb j))) (k0_pay30 (amall m))) rfl) $$ OUT
  iintro OUT
  iapply (op_swait m K c 0 1 rfl sem_s0 (xrow_eq (off3_eq1 c))) $$ HP HO Cs0 As0
  iintro ⟨HO, X1, As0⟩
  iapply (op_swait m K c 1 2 rfl sem_s1 (xrow_eq (off3_eq2 c))) $$ HP HO Cs1 As1
  iintro ⟨HO, X2, As1⟩
  iapply (op_swait m K c 2 3 rfl sem_s2 (xrow_eq (off3_eq3 c))) $$ HP HO Cs2 As2
  iintro ⟨HO, X3, As2⟩
  iapply (op_swait m K c 3 4 rfl sem_s3 (xrow_eq (off3_eq4 c))) $$ HP HO Cs3 As3
  iintro ⟨HO, X4, As3⟩
  iapply (wret c _)
  iapply Hk
  isplitl [OUT]; · iexact OUT
  isplitl [HO]; · iexact HO
  isplitl [As0]; · iexact As0
  isplitl [X1]; · iexact X1
  isplitl [As1]; · iexact As1
  isplitl [X2]; · iexact X2
  isplitl [As2]; · iexact As2
  isplitl [X3]; · iexact X3
  isplitl [As3]; · iexact As3
  iexact X4

/-- The other blocks' sends and three maxima's waited for. -/
theorem part29 {Q : _ → sProp 𝕄} :
    PC m K ⊢ iprop(Ow c 21 -∗
      cred (tallyAt (dcell c (sSem 4)) () Nx) -∗
      atPos ER (dcell c (sSem 4)) 0 ∅ 0 -∗
      cred (tallyAt (dcell c (sSem 5)) () Nx) -∗
      atPos ER (dcell c (sSem 5)) 0 ∅ 0 -∗
      cred (tallyAt (dcell c (sSem 6)) () Nx) -∗
      atPos ER (dcell c (sSem 6)) 0 ∅ 0 -∗
      cred (tallyAt (dcell c (tSem 0)) () Na) -∗
      atPos ER (dcell c (tSem 0)) 0 ∅ 0 -∗
      cred (tallyAt (dcell c (tSem 1)) () Na) -∗
      atPos ER (dcell c (tSem 1)) 0 ∅ 0 -∗
      cred (tallyAt (dcell c (tSem 2)) () Na) -∗
      atPos ER (dcell c (tSem 2)) 0 ∅ 0 -∗
      ((Ow c 21 ∗ atPos ER (dcell c (sSem 4)) 1 ∅ 0 ∗ owns (c : Thread nD τ) (xrow (pe c 5)) fullShare (xb m c (pe c 5)) ∗ atPos ER (dcell c (sSem 5)) 1 ∅ 0 ∗ owns (c : Thread nD τ) (xrow (pe c 6)) fullShare (xb m c (pe c 6)) ∗ atPos ER (dcell c (sSem 6)) 1 ∅ 0 ∗ owns (c : Thread nD τ) (xrow (pe c 7)) fullShare (xb m c (pe c 7)) ∗ atPos ER (dcell c (tSem 0)) 1 ∅ 0 ∗ owns (c : Thread nD τ) (arow c) (rsh 0).left (am m c) ∗ atPos ER (dcell c (tSem 1)) 1 ∅ 0 ∗ owns (c : Thread nD τ) (arow c) (rsh 1).left (am m c) ∗ atPos ER (dcell c (tSem 2)) 1 ∅ 0 ∗ owns (c : Thread nD τ) (arow c) (rsh 2).left (am m c)) -∗ Q ⟨⟩)
      -∗ WP c (k0_part29 (F := F) xM (Memref.isWhole_whole _) wM (Memref.isWhole_whole _) oM (Memref.isWhole_whole _) rM (Memref.isWhole_whole _) bM (Memref.isWhole_whole _) aM (Memref.isWhole_whole _) cc0_scratch3 cc0_scratch4 cc0_scratch5 cc0_scratch6 cc0_scratch7 c) Q) := by
  rw [k0_part29_eq_skeleton]; unfold k0_part29_skel
  simp only [semSignalWord, semWaitWord, Prog.lift, Prog.bind_op, Prog.bind_ret, Prog.pure_eq_ret, wp_deviceId]
  iintro #HP HO Cs4 As4 Cs5 As5 Cs6 As6 Ct0 At0 Ct1 At1 Ct2 At2 Hk
  iapply (op_swait m K c 4 5 rfl sem_s4 (xrow_eq (off3_eq5 c))) $$ HP HO Cs4 As4
  iintro ⟨HO, X5, As4⟩
  iapply (op_swait m K c 5 6 rfl sem_s5 (xrow_eq (off3_eq6 c))) $$ HP HO Cs5 As5
  iintro ⟨HO, X6, As5⟩
  iapply (op_swait m K c 6 7 rfl sem_s6 (xrow_eq (off3_eq7 c))) $$ HP HO Cs6 As6
  iintro ⟨HO, X7, As6⟩
  iapply (op_twait m K c 0 1 rfl 0 rfl sem_t0 (arow_eq (off12_eq c))) $$ HP HO Ct0 At0
  iintro ⟨HO, Al0, At0⟩
  iapply (op_twait m K c 1 2 rfl 1 rfl sem_t1 (arow_eq (off12_eq c))) $$ HP HO Ct1 At1
  iintro ⟨HO, Al1, At1⟩
  iapply (op_twait m K c 2 3 rfl 2 rfl sem_t2 (arow_eq (off12_eq c))) $$ HP HO Ct2 At2
  iintro ⟨HO, Al2, At2⟩
  iapply (wret c _)
  iapply Hk
  isplitl [HO]; · iexact HO
  isplitl [As4]; · iexact As4
  isplitl [X5]; · iexact X5
  isplitl [As5]; · iexact As5
  isplitl [X6]; · iexact X6
  isplitl [As6]; · iexact As6
  isplitl [X7]; · iexact X7
  isplitl [At0]; · iexact At0
  isplitl [Al0]; · iexact Al0
  isplitl [At1]; · iexact At1
  isplitl [Al1]; · iexact Al1
  isplitl [At2]; · iexact At2
  iexact Al2

end Cert.Exchange

end
-- ==== Proof.Body.lean ====
/-
The kernel's body, part after part, from what a device starts with to its block of the result.
-/
module

public import proofs.«01_k».proof.Proof.Fams
public import proofs.«01_k».proof.Proof.PartsA
public import proofs.«01_k».proof.Proof.PartsB
public import proofs.«01_k».proof.Proof.PartsC
public import proofs.«01_k».proof.Proof.PartsD

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body

variable (m : (ℓ : Loc nD τ sig) → Buf (Elt F) ℓ) (K : Dev nD × Fin 31 → ℕ) (c : Dev nD) [∀ e, Nonempty (Elt F e)]

omit [∀ e, Nonempty (Elt F e)] in
theorem wbind {α β : Type} {Q : β → sProp 𝕄} (p : Prog (TpuEff nD τ sig (Elt F) Λ₀ .tc) α) (k : α → Prog (TpuEff nD τ sig (Elt F) Λ₀ .tc) β) :
    (WP c p (fun a => WP c (k a) Q) : sProp 𝕄) ⊢ WP c (p >>= k) Q :=
  Entails.of_eq (wp_bind ..).symm

/-- The landing buffer whole again, from its eight slots. -/
theorem slots_close :
    iprop(owns (c : Thread nD τ) (slot c) fullShare (xb m c c) ∗ owns (c : Thread nD τ) (slot (og c 1)) fullShare (xb m (og c 1) c) ∗ owns (c : Thread nD τ) (slot (og c 2)) fullShare (xb m (og c 2) c) ∗ owns (c : Thread nD τ) (slot (og c 3)) fullShare (xb m (og c 3) c) ∗ owns (c : Thread nD τ) (slot (og c 4)) fullShare (xb m (og c 4) c) ∗ owns (c : Thread nD τ) (slot (og c 5)) fullShare (xb m (og c 5) c) ∗ owns (c : Thread nD τ) (slot (og c 6)) fullShare (xb m (og c 6) c) ∗ owns (c : Thread nD τ) (slot (og c 7)) fullShare (xb m (og c 7) c)) ⊢ (iprop(∃ X, owns (c : Thread nD τ) rM fullShare X) : sProp 𝕄) := by
  iintro ⟨H0, H1, H2, H3, H4, H5, H6, H7⟩
  iapply (r_uncut (F := F) c)
  rw [bigSep_univ_at _ c, bigSep_behind c]
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

/-- The staged block whole again, from its eight row blocks. -/
theorem x_close :
    iprop(owns (c : Thread nD τ) (xrow c) fullShare (xb m c c) ∗ owns (c : Thread nD τ) (xrow (pe c 1)) fullShare (xb m c (pe c 1)) ∗ owns (c : Thread nD τ) (xrow (pe c 2)) fullShare (xb m c (pe c 2)) ∗ owns (c : Thread nD τ) (xrow (pe c 3)) fullShare (xb m c (pe c 3)) ∗ owns (c : Thread nD τ) (xrow (pe c 4)) fullShare (xb m c (pe c 4)) ∗ owns (c : Thread nD τ) (xrow (pe c 5)) fullShare (xb m c (pe c 5)) ∗ owns (c : Thread nD τ) (xrow (pe c 6)) fullShare (xb m c (pe c 6)) ∗ owns (c : Thread nD τ) (xrow (pe c 7)) fullShare (xb m c (pe c 7))) ⊢ (owns (c : Thread nD τ) xM fullShare (xstg m c) : sProp 𝕄) :=
  (Entails.of_eq (bigSep_all c (fun r => owns (c : Thread nD τ) (xrow r) fullShare (xb m c r))).symm).trans (x_uncut m c)

/-- The weights and their double buffer, no copy in flight, -/
theorem w_open (X : Vec F S2x512x4096 .f32) :
    iprop(owns (c : Thread nD τ) wM fullShare (wall m c) ∗ owns (c : Thread nD τ) bM fullShare X ∗ wsems c) ⊢ (iprop(WIdle m c 0 ∗ WIdle m c 1) : sProp 𝕄) := by
  unfold wsems WIdle
  iintro ⟨HW, HB, HS⟩
  ihave HW := (w_cut m c).1 $$ HW
  ihave HB := (b_cut c X) $$ HB
  ihave HB := (Entails.of_eq (bigSep_pair (fun s => iprop(∃ Y, owns (c : Thread nD τ) (wslot s) fullShare Y)))) $$ HB
  ihave HS := (Entails.of_eq (bigSep_pair (fun h => semVal (dcell c (wSem h)) 0))) $$ HS
  icases HW with ⟨W0, W1⟩
  icases HB with ⟨B0, B1⟩
  icases HS with ⟨S0, S1⟩
  isplitl [W0 B0 S0]
  · isplitl [W0]; · iexact W0
    isplitl [B0]; · iexact B0
    iexact S0
  · isplitl [W1]; · iexact W1
    isplitl [B1]; · iexact B1
    iexact S1
/-- and back. -/
theorem w_close :
    iprop(WIdle m c 0 ∗ WIdle m c 1) ⊢ (iprop(owns (c : Thread nD τ) wM fullShare (wall m c) ∗ (∃ X, owns (c : Thread nD τ) bM fullShare X) ∗ wsems c) : sProp 𝕄) := by
  unfold wsems WIdle
  iintro ⟨⟨W0, B0, S0⟩, W1, B1, S1⟩
  isplitl [W0 W1]
  · iapply (w_cut m c).2
    isplitl [W0]; · iexact W0
    iexact W1
  isplitl [B0 B1]
  · iapply (b_uncut (F := F) c)
    rw [bigSep_pair]
    isplitl [B0]; · iexact B0
    iexact B1
  · rw [bigSep_pair]
    isplitl [S0]; · iexact S0
    iexact S1

set_option maxHeartbeats 4000000 in
set_option maxRecDepth 8000 in
/-- The body, its thirty stretches in program order. -/
theorem sound_body (Kt : PUnit → sProp 𝕄) :
    iprop((Φ₀ m c ∗ Ow c 0 ∗ owns (c : Thread nD τ) xM fullShare (xstg m c) ∗ (∃ X, owns (c : Thread nD τ) oM fullShare X))
        ∗ ((Φ₁ m c ∗ Ow c 21 ∗ owns (c : Thread nD τ) xM fullShare (xstg m c) ∗ owns (c : Thread nD τ) oM fullShare (outAt m c)) -∗ Kt ⟨⟩))
      ⊢ WP c (cc0_body xM (Memref.isWhole_whole _) wM (Memref.isWhole_whole _) oM (Memref.isWhole_whole _) rM (Memref.isWhole_whole _)
          bM (Memref.isWhole_whole _) aM (Memref.isWhole_whole _) cc0_scratch3 cc0_scratch4 cc0_scratch5 cc0_scratch6 cc0_scratch7) Kt := by
  rw [cc0_body_eq_skeleton]; unfold cc0_body_skel
  unfold Φ₀ start scratch posns dueToks credits fams
  iintro ⟨⟨⟨⟨⟨%K, #HP⟩, ⟨HaB, HAs, HAr, HAt, HAz⟩, ⟨HTb, HTs, HTr, HTt, HTz⟩, ⟨HcB, HCr, HCz⟩, Hws, Hw⟩, ⟨%Xr, Hr⟩, ⟨%Xw, Hb⟩, ⟨%Xa, Ha⟩⟩, HO, Hx, ⟨%Xo, OUT⟩⟩, HK⟩
  ihave HW := (w_open m c Xw) $$ [Hw Hb Hws]
  · isplitl [Hw]; · iexact Hw
    isplitl [Hb]; · iexact Hb
    iexact Hws
  icases HW with ⟨W0, W1⟩
  ihave HAs := (Entails.of_eq (bigSep_fin7 (fun j => atPos ER (dcell c (sSem j)) 0 ∅ 0))) $$ HAs
  icases HAs with ⟨As0, As1, As2, As3, As4, As5, As6⟩
  ihave HAt := (Entails.of_eq (bigSep_fin7 (fun j => atPos ER (dcell c (tSem j)) 0 ∅ 0))) $$ HAt
  icases HAt with ⟨At0, At1, At2, At3, At4, At5, At6⟩
  ihave HAr := (Entails.of_eq (bigSep_univ_at (fun s => atPos ER (dcell c (rSem s)) 0 ∅ 0) c)) $$ HAr
  icases HAr with ⟨Ar0, HAr⟩
  ihave HAr := (Entails.of_eq (bigSep_behind c (fun s => atPos ER (dcell c (rSem s)) 0 ∅ 0))) $$ HAr
  icases HAr with ⟨Ar1, Ar2, Ar3, Ar4, Ar5, Ar6, Ar7⟩
  ihave HCr := (Entails.of_eq (bigSep_behind c (fun s => cred (tallyAt (dcell c (rSem s)) () Nx)))) $$ HCr
  icases HCr with ⟨Cr1, Cr2, Cr3, Cr4, Cr5, Cr6, Cr7⟩
  ihave HTr := (Entails.of_eq (bigSep_others c (fun p => dutyTok ER (dcell p (rSem c)) 0 0))) $$ HTr
  icases HTr with ⟨Tr1, Tr2, Tr3, Tr4, Tr5, Tr6, Tr7⟩
  ihave HAz := (Entails.of_eq (bigSep_univ_at (fun s => atPos ER (dcell c (zSem s)) 0 ∅ 0) c)) $$ HAz
  icases HAz with ⟨Az0, HAz⟩
  ihave HAz := (Entails.of_eq (bigSep_behind c (fun s => atPos ER (dcell c (zSem s)) 0 ∅ 0))) $$ HAz
  icases HAz with ⟨Az1, Az2, Az3, Az4, Az5, Az6, Az7⟩
  ihave HCz := (Entails.of_eq (bigSep_behind c (fun s => cred (tallyAt (dcell c (zSem s)) () Na)))) $$ HCz
  icases HCz with ⟨Cz1, Cz2, Cz3, Cz4, Cz5, Cz6, Cz7⟩
  ihave HTz := (Entails.of_eq (bigSep_others c (fun p => dutyTok ER (dcell p (zSem c)) 0 0))) $$ HTz
  icases HTz with ⟨Tz1, Tz2, Tz3, Tz4, Tz5, Tz6, Tz7⟩
  ihave HTb := (Entails.of_eq (bigSep_others c (fun p => dutyTok ER (barCell p) 0 c))) $$ HTb
  icases HTb with ⟨Tb1, Tb2, Tb3, Tb4, Tb5, Tb6, Tb7⟩
  ihave HTs := (Entails.of_eq (bigSep_fin7 (fun j => dutyTok ER (dcell c (sSem j)) 0 0))) $$ HTs
  icases HTs with ⟨Ts0, Ts1, Ts2, Ts3, Ts4, Ts5, Ts6⟩
  ihave HTt := (Entails.of_eq (bigSep_fin7 (fun j => dutyTok ER (dcell c (tSem j)) 0 0))) $$ HTt
  icases HTt with ⟨Tt0, Tt1, Tt2, Tt3, Tt4, Tt5, Tt6⟩
  ihave Hx := (x_cut m c) $$ Hx
  ihave Hx := (Entails.of_eq (bigSep_all c (fun r => owns (c : Thread nD τ) (xrow r) fullShare (xb m c r)))) $$ Hx
  icases Hx with ⟨X0, X1, X2, X3, X4, X5, X6, X7⟩
  ihave Hr := (r_cut c Xr) $$ Hr
  ihave Hr := (Entails.of_eq (bigSep_all c (fun s => iprop(∃ Y, owns (c : Thread nD τ) (slot s) fullShare Y)))) $$ Hr
  icases Hr with ⟨⟨%Y0, S0⟩, U1, U2, U3, U4, U5, U6, U7⟩
  ihave Ha := (a_cut c Xa) $$ Ha
  ihave Ha := (Entails.of_eq (bigSep_all c (fun s => iprop(∃ Y, owns (c : Thread nD τ) (arow s) fullShare Y)))) $$ Ha
  icases Ha with ⟨⟨%Z0, AO⟩, V1, V2, V3, V4, V5, V6, V7⟩
  ihave Pb1 := (Entails.of_eq (barPay_eq (pe c 1) c).symm) $$ [U1 V1]
  · isplitl [U1]; · iexact U1
    iexact V1
  ihave Pb2 := (Entails.of_eq (barPay_eq (pe c 2) c).symm) $$ [U2 V2]
  · isplitl [U2]; · iexact U2
    iexact V2
  ihave Pb3 := (Entails.of_eq (barPay_eq (pe c 3) c).symm) $$ [U3 V3]
  · isplitl [U3]; · iexact U3
    iexact V3
  ihave Pb4 := (Entails.of_eq (barPay_eq (pe c 4) c).symm) $$ [U4 V4]
  · isplitl [U4]; · iexact U4
    iexact V4
  ihave Pb5 := (Entails.of_eq (barPay_eq (pe c 5) c).symm) $$ [U5 V5]
  · isplitl [U5]; · iexact U5
    iexact V5
  ihave Pb6 := (Entails.of_eq (barPay_eq (pe c 6) c).symm) $$ [U6 V6]
  · isplitl [U6]; · iexact U6
    iexact V6
  ihave Pb7 := (Entails.of_eq (barPay_eq (pe c 7) c).symm) $$ [U7 V7]
  · isplitl [U7]; · iexact U7
    iexact V7
  ihave OUT := (Entails.of_eq (congrArg (owns (c : Thread nD τ) oM fullShare) (join_self Xo).symm)) $$ OUT
  iapply (wbind c _ _)
  iapply (part1 m K c ) $$ HP HO Tb1 Pb1 Tb2 Pb2 Tb3 Pb3 Tb4 Pb4 Tb5 Pb5
  iintro %v %v' %w HO
  iapply (wbind c _ _)
  iapply (part2 m K c _ _ _) $$ HP HO Tb6 Pb6 Tb7 Pb7 HcB HaB X1 Ts0 Tr1
  iintro  ⟨HO, HaB, E1, D2, E2, D3, E3, D4, E4, D5, E5, D6, E6, D7, E7, Cs0⟩
  iapply (wbind c _ _)
  iapply (part3 m K c _) $$ HP HO X2 D2 Ts1 Tr2 X3 D3 Ts2 Tr3 X4 D4 Ts3 Tr4
  iintro  ⟨HO, Cs1, Cs2, Cs3⟩
  iapply (wbind c _ _)
  iapply (part4 m K c _) $$ HP HO X5 D5 Ts4 Tr5 X6 D6 Ts5 Tr6 X7 D7 Ts6 Tr7 X0
  iintro  ⟨HO, Cs4, Cs5, Cs6, X0⟩
  iapply (wbind c _ _)
  iapply (part5 m K c _ _) $$ HP S0 W0 W1 HO
  iintro  ⟨S0, W0, W1, HO⟩
  iapply (wbind c _ _)
  iapply (part6 m K c _ _ _) $$ HP S0 OUT W0 HO W1
  iintro %v %w ⟨S0, OUT, W0, HO, W1⟩
  iapply (wbind c _ _)
  iapply (part7 m K c _ _ _ _) $$ HP S0 OUT W1 HO Cr1 Ar1
  iintro  ⟨S0, OUT, W1, HO, Ar1, S1⟩
  iapply (wbind c _ _)
  iapply (part8 m K c _) $$ HP HO W0 S1 OUT
  iintro  ⟨HO, W0, S1, OUT⟩
  iapply (wbind c _ _)
  iapply (part9 m K c _) $$ HP HO W1 S1 OUT
  iintro  ⟨HO, W1, S1, OUT⟩
  iapply (wbind c _ _)
  iapply (part10 m K c _) $$ HP HO Cr2 Ar2 W0 OUT
  iintro  ⟨HO, Ar2, S2, W0, OUT⟩
  iapply (wbind c _ _)
  iapply (part11 m K c _) $$ HP W0 HO W1 S2 OUT
  iintro  ⟨W0, HO, W1, S2, OUT⟩
  iapply (wbind c _ _)
  iapply (part12 m K c _) $$ HP W1 HO Cr3 Ar3 W0 OUT
  iintro  ⟨W1, HO, Ar3, S3, W0, OUT⟩
  iapply (wbind c _ _)
  iapply (part13 m K c _) $$ HP OUT W0 HO W1 S3
  iintro  ⟨OUT, W0, HO, W1, S3⟩
  iapply (wbind c _ _)
  iapply (part14 m K c _) $$ HP OUT W1 HO Cr4 Ar4 W0
  iintro  ⟨OUT, W1, HO, Ar4, S4, W0⟩
  iapply (wbind c _ _)
  iapply (part15 m K c _) $$ HP S4 OUT W0 HO W1
  iintro %v ⟨S4, OUT, W0, HO, W1⟩
  iapply (wbind c _ _)
  iapply (part16 m K c _ _) $$ HP S4 OUT W1 HO Cr5 Ar5
  iintro  ⟨S4, OUT, W1, HO, Ar5, S5⟩
  iapply (wbind c _ _)
  iapply (part17 m K c _) $$ HP HO W0 S5 OUT
  iintro  ⟨HO, W0, S5, OUT⟩
  iapply (wbind c _ _)
  iapply (part18 m K c _) $$ HP HO W1 S5 OUT
  iintro %v ⟨HO, W1, S5, OUT⟩
  iapply (wbind c _ _)
  iapply (part19 m K c _ _) $$ HP HO Cr6 Ar6 W0 OUT
  iintro %v ⟨HO, Ar6, S6, W0, OUT⟩
  iapply (wbind c _ _)
  iapply (part20 m K c _ _) $$ HP W0 HO W1 S6 OUT
  iintro %v ⟨W0, HO, W1, S6, OUT⟩
  iapply (wbind c _ _)
  iapply (part21 m K c _ _) $$ HP W1 HO Cr7 Ar7 W0
  iintro  ⟨W1, HO, Ar7, S7, W0⟩
  iapply (wbind c _ _)
  iapply (part22 m K c _) $$ HP S7 OUT HO W1
  iintro  ⟨S7, OUT, HO, W1⟩
  iapply (wbind c _ _)
  iapply (part23 m K c _ _) $$ HP OUT AO HO E1 Tt0 Tz1 E2 Tt1 Tz2
  iintro %v ⟨OUT, AO, HO, Ct0, Ct1⟩
  iapply (wbind c _ _)
  iapply (part24 m K c _ _) $$ HP HO AO E3 Tt2 Tz3 E4 Tt3 Tz4 E5 Tt4 Tz5
  iintro  ⟨HO, AO, Ct2, Ct3, Ct4⟩
  iapply (wbind c _ _)
  iapply (part25 m K c _) $$ HP HO AO E6 Tt5 Tz6 E7 Tt6 Tz7 Cz1 Az1
  iintro  ⟨HO, AO, Ct5, Ct6, Az1, R1⟩
  iapply (wbind c _ _)
  iapply (part26 m K c _) $$ HP HO Cz2 Az2 Cz3 Az3 Cz4 Az4 Cz5 Az5
  iintro %v %w ⟨HO, Az2, R2, Az3, R3, Az4, R4, Az5, R5⟩
  iapply (wbind c _ _)
  iapply (part27 m K c _ _ _) $$ HP HO Cz6 Az6 Cz7 Az7 R1 R2 R3 R4 R5 AO OUT
  iintro  ⟨HO, Az6, Az7, AM, AR, OUT⟩
  iapply (wbind c _ _)
  iapply (part28 m K c ) $$ HP OUT HO Cs0 As0 Cs1 As1 Cs2 As2 Cs3 As3
  iintro  ⟨OUT, HO, As0, X1, As1, X2, As2, X3, As3, X4⟩
  iapply (wbind c _ _)
  iapply (part29 m K c ) $$ HP HO Cs4 As4 Cs5 As5 Cs6 As6 Ct0 At0 Ct1 At1 Ct2 At2
  iintro  ⟨HO, As4, X5, As5, X6, As6, X7, At0, Al0, At1, Al1, At2, Al2⟩
  simp only [Prog.lift, Prog.bind_op, Prog.bind_ret, Prog.pure_eq_ret]
  iapply (op_twait m K c 3 4 rfl 3 rfl sem_t3 (arow_eq (off12_eq c))) $$ HP HO Ct3 At3
  iintro ⟨HO, Al3, At3⟩
  iapply (op_twait m K c 4 5 rfl 4 rfl sem_t4 (arow_eq (off12_eq c))) $$ HP HO Ct4 At4
  iintro ⟨HO, Al4, At4⟩
  iapply (op_twait m K c 5 6 rfl 5 rfl sem_t5 (arow_eq (off12_eq c))) $$ HP HO Ct5 At5
  iintro ⟨HO, Al5, At5⟩
  iapply (op_twait m K c 6 7 rfl 6 rfl sem_t6 (arow_eq (off12_eq c))) $$ HP HO Ct6 At6
  iintro ⟨HO, Al6, At6⟩
  ihave HAs := (Entails.of_eq (bigSep_fin7 (fun j => atPos ER (dcell c (sSem j)) 1 ∅ 0)).symm) $$ [As0 As1 As2 As3 As4 As5 As6]
  · isplitl [As0]; · iexact As0
    isplitl [As1]; · iexact As1
    isplitl [As2]; · iexact As2
    isplitl [As3]; · iexact As3
    isplitl [As4]; · iexact As4
    isplitl [As5]; · iexact As5
    iexact As6
  ihave HAt := (Entails.of_eq (bigSep_fin7 (fun j => atPos ER (dcell c (tSem j)) 1 ∅ 0)).symm) $$ [At0 At1 At2 At3 At4 At5 At6]
  · isplitl [At0]; · iexact At0
    isplitl [At1]; · iexact At1
    isplitl [At2]; · iexact At2
    isplitl [At3]; · iexact At3
    isplitl [At4]; · iexact At4
    isplitl [At5]; · iexact At5
    iexact At6
  ihave HAr := (Entails.of_eq (bigSep_behind c (fun s => atPos ER (dcell c (rSem s)) 1 ∅ 0)).symm) $$ [Ar1 Ar2 Ar3 Ar4 Ar5 Ar6 Ar7]
  · isplitl [Ar1]; · iexact Ar1
    isplitl [Ar2]; · iexact Ar2
    isplitl [Ar3]; · iexact Ar3
    isplitl [Ar4]; · iexact Ar4
    isplitl [Ar5]; · iexact Ar5
    isplitl [Ar6]; · iexact Ar6
    iexact Ar7
  ihave HAz := (Entails.of_eq (bigSep_behind c (fun s => atPos ER (dcell c (zSem s)) 1 ∅ 0)).symm) $$ [Az1 Az2 Az3 Az4 Az5 Az6 Az7]
  · isplitl [Az1]; · iexact Az1
    isplitl [Az2]; · iexact Az2
    isplitl [Az3]; · iexact Az3
    isplitl [Az4]; · iexact Az4
    isplitl [Az5]; · iexact Az5
    isplitl [Az6]; · iexact Az6
    iexact Az7
  imod (close_bar m c K) $$ HP HaB with HzB
  imod (close_fam m c K sSem sSem_lo sSem_hi) $$ HP HAs with Hzs
  imod (close_recv m c K rSem rSem_lo rSem_hi (dut_r_own m c)) $$ HP Ar0 HAr with Hzr
  imod (close_fam m c K tSem tSem_lo tSem_hi) $$ HP HAt with Hzt
  imod (close_recv m c K zSem zSem_lo zSem_hi (dut_z_own m c)) $$ HP Az0 HAz with Hzz
  ihave Hx := (x_close m c) $$ [X0 X1 X2 X3 X4 X5 X6 X7]
  · isplitl [X0]; · iexact X0
    isplitl [X1]; · iexact X1
    isplitl [X2]; · iexact X2
    isplitl [X3]; · iexact X3
    isplitl [X4]; · iexact X4
    isplitl [X5]; · iexact X5
    isplitl [X6]; · iexact X6
    iexact X7
  ihave Hr := (slots_close m c) $$ [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  ihave Hw := (w_close m c) $$ [W0 W1]
  · isplitl [W0]; · iexact W0
    iexact W1
  icases Hw with ⟨Hw, Hb, Hws⟩
  ihave HL := (show iprop(owns (c : Thread nD τ) (arow c) (rsh 0).left (am m c) ∗ owns (c : Thread nD τ) (arow c) (rsh 1).left (am m c) ∗ owns (c : Thread nD τ) (arow c) (rsh 2).left (am m c) ∗ owns (c : Thread nD τ) (arow c) (rsh 3).left (am m c) ∗ owns (c : Thread nD τ) (arow c) (rsh 4).left (am m c) ∗ owns (c : Thread nD τ) (arow c) (rsh 5).left (am m c) ∗ owns (c : Thread nD τ) (arow c) (rsh 6).left (am m c)) ⊢ (lefts c c (am m c) : sProp 𝕄) from .rfl) $$ [Al0 Al1 Al2 Al3 Al4 Al5 Al6]
  · isplitl [Al0]; · iexact Al0
    isplitl [Al1]; · iexact Al1
    isplitl [Al2]; · iexact Al2
    isplitl [Al3]; · iexact Al3
    isplitl [Al4]; · iexact Al4
    isplitl [Al5]; · iexact Al5
    iexact Al6
  ihave Ha := (rows_return m c) $$ [AM AR HL]
  · isplitl [AM]; · iexact AM
    isplitl [AR]; · iexact AR
    iexact HL
  iapply (wret c _)
  iapply HK
  unfold Φ₁ quiet scratch fams
  isplitl [HzB Hzs Hzr Hzt Hzz Hws Hw Hr Hb Ha]
  · isplitl [HzB Hzs Hzr Hzt Hzz Hws]
    · isplitl [HzB]; · iexact HzB
      isplitl [Hzs Hzr Hzt Hzz]
      · isplitl [Hzs]; · iexact Hzs
        isplitl [Hzr]; · iexact Hzr
        isplitl [Hzt]; · iexact Hzt
        iexact Hzz
      iexact Hws
    isplitl [Hw]; · iexact Hw
    isplitl [Hr]; · iexact Hr
    isplitl [Hb]; · iexact Hb
    iexists _; iexact Ha
  isplitl [HO]; · iexact HO
  isplitl [Hx]; · iexact Hx
  unfold outAt
  iexact OUT

end Body

end Cert.Exchange

end
-- ==== Proof.Launch.lean ====
/-
The launch: the pipeline's data, the cells allocated and dealt out to the devices, the launch credit, and the run of the whole program.
-/
module

public import proofs.«01_k».proof.Proof.Body

public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline

/-! ## The pipeline's data -/

abbrev s₀ (m : (ℓ : Loc nD τ sig) → Buf (Elt F) ℓ) (ρ : Dev nD → PrngReg) : MemSt nD τ sig (Elt F) := ⟨m, fun _ => 0, ρ⟩

/-- The kernel's own semaphores. -/
abbrev osem (k : Fin 32) : SemLoc sig := .dma (dsem k)

section Run

variable (m : (ℓ : Loc nD τ sig) → Buf (Elt F) ℓ) (ρ : Dev nD → PrngReg) [∀ e, Nonempty (Elt F e)]

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => owedL (obl c 0)
    | ⟨_ + 1, _⟩ => owedL (obl c 21)

theorem fetch_in (t : Fin cfg0.N) : (cfg0.win (0 : Fin 2)).fetch t = true := by rw [fin_N0 t]; rfl

theorem before_x (c : Dev nD) (d) : (dats m ρ 0 c).before (0 : Fin 2) t0_0 d = xstg m c := by
  unfold Dat.before; rw [if_pos (fetch_in t0_0)]; rfl

/-- What the body finds, and what it leaves, as the pipeline states them. -/
def found (c : Dev nD) : sProp 𝕄 :=
  iprop(Φ₀ m c ∗ (dats m ρ 0 c).owesAt () (t0_0 : Fin cfg0.N).castSucc
    ∗ (∃ d, owns (c : Thread nD τ) xM fullShare ((dats m ρ 0 c).before (0 : Fin 2) t0_0 d))
    ∗ (∃ d, owns (c : Thread nD τ) oM fullShare ((dats m ρ 0 c).before (1 : Fin 2) t0_0 d)))
def left (c : Dev nD) : sProp 𝕄 :=
  iprop(Φ₁ m c ∗ (dats m ρ 0 c).owesAt () (t0_0 : Fin cfg0.N).succ
    ∗ owns (c : Thread nD τ) xM fullShare (xstg m c) ∗ owns (c : Thread nD τ) oM fullShare (outAt m c))

theorem found_left (c : Dev nD) :
    found m ρ c ⊢ WP c (cc0_body xM (Memref.isWhole_whole _) wM (Memref.isWhole_whole _) oM (Memref.isWhole_whole _) rM (Memref.isWhole_whole _)
      bM (Memref.isWhole_whole _) aM (Memref.isWhole_whole _) cc0_scratch3 cc0_scratch4 cc0_scratch5 cc0_scratch6 cc0_scratch7) (fun _ => left m ρ c) := by
  unfold found left Dat.owesAt Pipeline.owesWithin
  rw [show (dats m ρ 0 c).owed (t0_0 : Fin cfg0.N).castSucc = owedL (obl c 0) from rfl,
    show (dats m ρ 0 c).owed (t0_0 : Fin cfg0.N).succ = owedL (obl c 21) from rfl]
  iintro ⟨HΦ, ⟨%W, %hW, HO⟩, ⟨%d, Hx⟩, ⟨%d', Ho⟩⟩
  ihave Hx := (Entails.of_eq (congrArg (owns (c : Thread nD τ) xM fullShare) (before_x m ρ c d))) $$ Hx
  iapply (sound_body m c _)
  isplitl
  · isplitl [HΦ]; · iexact HΦ
    isplitl [HO]; · unfold Ow; iexists W; iexact HO
    isplitl [Hx]; · iexact Hx
    iexists _; iexact Ho
  · unfold Ow
    iintro ⟨HΦ, ⟨%W', HO⟩, Hx, Ho⟩
    isplitl [HΦ]; · iexact HΦ
    isplitl [HO]
    · iexists W'
      isplitr; · ipureintro; exact fun _ _ => Or.inl trivial
      iexact HO
    isplitl [Hx]; · iexact Hx
    iexact Ho

set_option maxRecDepth 8000 in
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  exact found_left m ρ c

/-! ## The cells -/

set_option maxRecDepth 8000 in
theorem ownSemFacts : Pipeline.OwnSemFacts cfg0.spec osem := by decide

theorem share_eq (c : Dev nD) (w : Fin cfg0.W) : (dats m ρ 0 c).share w = fullShare := by unfold Dat.share; split <;> rfl

theorem cellSem_injective : Function.Injective cellSem := by
  intro a b h
  unfold cellSem at h
  split at h <;> split at h
  · exact Fin.ext (by omega)
  · cases h
  · cases h
  · have h' := congrArg Fin.val (SemLoc.dma.inj h)
    exact Fin.ext (by dsimp only at h'; omega)
theorem kcell_injective : Function.Injective (kcell : Dev nD × Fin 31 → GSem nD τ sig) := by
  rintro ⟨c, k⟩ ⟨c', k'⟩ h
  have h1 : c = c' := congrArg (fun g : GSem nD τ sig => g.1.1) h
  have h2 : k = k' := cellSem_injective (congrArg Prod.snd h)
  rw [h1, h2]

/-- All the cells, and a token for every device at every one of them. -/
def allCells : Finset (GSem nD τ sig) := Finset.univ.map ⟨kcell, kcell_injective⟩
def tokAt (x : Dev nD × Fin 31 × Fin 8) : GSem nD τ sig × ℕ × Fin 8 := (kcell (x.1, x.2.1), 0, x.2.2)
theorem tokAt_injective : Function.Injective tokAt := by
  rintro ⟨c, k, d⟩ ⟨c', k', d'⟩ h
  have h1 := kcell_injective (congrArg Prod.fst h)
  have h2 : d = d' := congrArg (fun y : GSem nD τ sig × ℕ × Fin 8 => y.2.2) h
  cases h1; rw [h2]
def allToks : Finset (GSem nD τ sig × ℕ × Fin 8) := Finset.univ.map ⟨tokAt, tokAt_injective⟩

def u₀ : UU :=
  (initOf (Pipeline.cells cfgs cellOf_inj) (Pipeline.launchToks cfgs cellOf_inj), (initOf allCells allToks, 1))

omit [FloatOps F] [∀ e, Nonempty (Elt F e)] in
theorem own_parts (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

def minted (c : Dev nD) : sProp 𝕄 := bigSep Finset.univ fun k : Fin 31 => bigSep Finset.univ fun d : Fin 8 => dutyTok ER (kcell (c, k)) 0 d

/-- What the launch element deals device `c`, -/
def G (c : Dev nD) : sProp 𝕄 :=
  iprop((bigSep Finset.univ fun k : Fin 31 => roundState ER (Rd m) (kcell (c, k)) 0)
    ∗ (bigSep Finset.univ fun k : Fin 31 => iprop(atPos ER (kcell (c, k)) 0 ∅ 0 ∗ reached ER (kcell (c, k)) 0)) ∗ minted c)
/-- the invariants and the marks of all cells, -/
def shared (K : Dev nD × Fin 31 → ℕ) : sProp 𝕄 :=
  iprop((bigSep Finset.univ fun ck : Dev nD × Fin 31 => cellInv ER (Rd m) (K ck) (kcell ck))
    ∗ bigSep Finset.univ fun ck : Dev nD × Fin 31 => reached ER (kcell ck) 0)
/-- and what a device has once the cells are allocated. -/
def G' (c : Dev nD) : sProp 𝕄 := iprop((∃ K, shared m K) ∗ posns c ∗ dueToks c ∗ wsems c)

instance shared_persistent (K : Dev nD × Fin 31 → ℕ) : BI.Persistent (shared m K) := by unfold shared; infer_instance

omit [∀ e, Nonempty (Elt F e)] in
theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 31 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]
    exact bigSep_congr fun c _ => by unfold minted; rw [bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] [∀ e, Nonempty (Elt F e)] in
theorem ownSems0_eq (c : Dev nD) : (Pipeline.ownSems0 (Ix := Unit) (Name := ℕ) (U := UU) (Lvl := ℕ) (Val := Elt F) (τ := τ) osem c : sProp 𝕄)
    = iprop(fams (fun g => semVal ((c : Thread nD τ), g) 0) ∗ wsems c) :=
  own_split (fun g => semVal ((c : Thread nD τ), g) 0)
omit [FloatOps F] [∀ e, Nonempty (Elt F e)] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] [∀ e, Nonempty (Elt F e)] in
theorem sems_cells (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 31 => semVal (kcell (c, k)) 0) ∗ wsems c) : sProp 𝕄) := by
  rw [ownSems0_eq, unscopedSems0_eq, show (bigSep Finset.univ fun k : Fin 31 => (semVal (kcell (c, k)) 0 : sProp 𝕄))
    = iprop(semVal (barCell c) 0 ∗ fams (fun g => semVal ((c : Thread nD τ), g) 0)) from cells_split (fun g => semVal ((c : Thread nD τ), g) 0)]
  iintro ⟨⟨HF, HW⟩, HB⟩
  isplitr [HW]
  · isplitl [HB]; · iexact HB
    iexact HF
  iexact HW

omit [∀ e, Nonempty (Elt F e)] in
theorem alloc_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 31 => reached ER (kcell (c, k)) 0)
          ∗ (bigSep Finset.univ fun k : Fin 31 => atPos ER (kcell (c, k)) 0 ∅ 0) ∗ minted c ∗ wsems c) := by
  unfold G; rw [bigSep_sep']
  iintro ⟨Hos, Hus, Hst, ⟨Hat, Hr⟩, Htok⟩
  ihave Hv := (sems_cells (F := F) c) $$ [Hos Hus]
  · isplitl [Hos] <;> iassumption
  icases Hv with ⟨Hv, Hw⟩
  imod (show iprop((bigSep Finset.univ fun k : Fin 31 => semVal (kcell (c, k)) 0) ∗ bigSep Finset.univ fun k : Fin 31 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact Hw

/-! ## The tokens, from the cell's device to the device that pays -/

/-- The tokens that are used, with the device whose cell they are of. -/
def used (c : Dev nD) : sProp 𝕄 :=
  iprop(bigSep (Finset.univ.erase c) (fun p => dutyTok ER (barCell c) 0 p)
    ∗ bigSep Finset.univ (fun j : Fin 7 => dutyTok ER (dcell c (sSem j)) 0 0)
    ∗ bigSep (Finset.univ.erase c) (fun p => dutyTok ER (dcell c (rSem p)) 0 0)
    ∗ bigSep Finset.univ (fun j : Fin 7 => dutyTok ER (dcell c (tSem j)) 0 0)
    ∗ bigSep (Finset.univ.erase c) (fun p => dutyTok ER (dcell c (zSem p)) 0 0))

omit [FloatOps F] [∀ e, Nonempty (Elt F e)] in
theorem first_toks {n : ℕ} (S : Finset (Fin n)) (g : Fin n → GSem nD τ sig) :
    (bigSep Finset.univ fun j : Fin n => bigSep Finset.univ fun d : Fin 8 => dutyTok ER (g j) 0 d : sProp 𝕄) ⊢ bigSep S (fun j => dutyTok ER (g j) 0 0) := by
  rw [BI.bigSep_sdiff_split (Finset.subset_univ S)]
  exact sep_elim_left.trans (bigSep_mono fun j _ => bigSep_elim (Φ := fun d : Fin 8 => (dutyTok ER (g j) 0 d : sProp 𝕄)) (Finset.mem_univ 0))

omit [FloatOps F] [∀ e, Nonempty (Elt F e)] in
theorem minted_used (c : Dev nD) : (minted c : sProp 𝕄) ⊢ used c := by
  unfold minted used
  rw [show (bigSep Finset.univ fun k : Fin 31 => bigSep Finset.univ fun d : Fin 8 => (dutyTok ER (kcell (c, k)) 0 d : sProp 𝕄))
    = iprop((bigSep Finset.univ fun d : Fin 8 => dutyTok ER (barCell c) 0 d) ∗ fams (fun g => bigSep Finset.univ fun d : Fin 8 => dutyTok ER ((c : Thread nD τ), g) 0 d))
      from cells_split (fun g => bigSep Finset.univ fun d : Fin 8 => dutyTok ER ((c : Thread nD τ), g) 0 d)]
  unfold fams
  rw [bigSep_univ_at (fun d : Fin 8 => (dutyTok ER (barCell c) 0 d : sProp 𝕄)) c]
  iintro ⟨⟨-, HB⟩, HS, HR, HT, HZ⟩
  isplitl [HB]; · iexact HB
  isplitl [HS]; · iapply (first_toks Finset.univ (fun j : Fin 7 => dcell c (sSem j))); iexact HS
  isplitl [HR]; · iapply (first_toks (Finset.univ.erase c) (fun j : Fin 8 => dcell c (rSem j))); iexact HR
  isplitl [HT]; · iapply (first_toks Finset.univ (fun j : Fin 7 => dcell c (tSem j))); iexact HT
  iapply (first_toks (Finset.univ.erase c) (fun j : Fin 8 => dcell c (zSem j))); iexact HZ

omit [FloatOps F] [∀ e, Nonempty (Elt F e)] in
theorem deal_toks : (bigSep Finset.univ fun c : Dev nD => (minted c : sProp 𝕄)) ⊢ bigSep Finset.univ fun c : Dev nD => dueToks c := by
  refine (bigSep_mono fun c _ => minted_used c).trans ?_
  suffices h : (bigSep Finset.univ fun c : Dev nD => (used c : sProp 𝕄)) = bigSep Finset.univ fun c : Dev nD => dueToks c from h ▸ BI.Entails.refl _
  unfold used dueToks
  simp only [bigSep_sep']
  rw [BI.bigSep_erase_comm (fun (a b : Fin 8) => (dutyTok ER (barCell a) 0 b : sProp 𝕄)),
    BI.bigSep_erase_comm (fun (a b : Fin 8) => (dutyTok ER (dcell a (rSem b)) 0 0 : sProp 𝕄)),
    BI.bigSep_erase_comm (fun (a b : Fin 8) => (dutyTok ER (dcell a (zSem b)) 0 0 : sProp 𝕄))]

omit [FloatOps F] [∀ e, Nonempty (Elt F e)] in
theorem deal_beside {I : Type} [DecidableEq I] {S : Finset I} {R : sProp 𝕄} [BI.Persistent R] {Φ : I → sProp 𝕄} :
    iprop(R ∗ bigSep S Φ) ⊢ bigSep S (fun i => iprop(R ∗ Φ i)) :=
  (sep_mono_left (BI.bigSep_of_persistent S R)).trans (Entails.of_eq (bigSep_sep' S (fun _ => R) Φ).symm)

omit [∀ e, Nonempty (Elt F e)] in
theorem regroup :
    (bigSep Finset.univ fun c : Dev nD => iprop((bigSep Finset.univ fun k => iprop(∃ κ : ℕ, cellInv ER (Rd m) κ (kcell (c, k))))
          ∗ (bigSep Finset.univ fun k : Fin 31 => reached ER (kcell (c, k)) 0)
          ∗ (bigSep Finset.univ fun k : Fin 31 => atPos ER (kcell (c, k)) 0 ∅ 0) ∗ minted c ∗ wsems c) : sProp 𝕄)
      ⊢ bigSep Finset.univ (G' m) := by
  simp only [bigSep_sep']
  rw [← bigSep_univ_prod (fun ck : Dev nD × Fin 31 => iprop(∃ κ : ℕ, cellInv ER (Rd m) κ (kcell ck))),
    ← bigSep_univ_prod (fun ck : Dev nD × Fin 31 => (reached ER (kcell ck) 0 : sProp 𝕄))]
  iintro ⟨HI, #HR, Hat, Htok, Hw⟩
  ihave HK := (BI.bigSep_exists_pi Finset.univ (fun (ck : Dev nD × Fin 31) (κ : ℕ) => (cellInv ER (Rd m) κ (kcell ck) : sProp 𝕄))) $$ HI
  icases HK with ⟨%K, #HI⟩
  ihave Htk := (deal_toks (F := F)) $$ Htok
  unfold G'
  iapply (deal_beside.trans (bigSep_mono (s := Finset.univ) (Φ := fun c => iprop(shared m K ∗ posns c ∗ dueToks c ∗ wsems c)) fun c _ => show iprop(shared m K ∗ posns c ∗ dueToks c ∗ wsems c) ⊢
    iprop((∃ K, shared m K) ∗ posns c ∗ dueToks c ∗ wsems c) from sep_mono_left (exists_intro K)))
  isplitr
  · unfold shared; isplitl; · iexact HI
    iexact HR
  · simp only [bigSep_sep']
    isplitl [Hat]
    · iapply (Entails.of_eq (bigSep_congr fun (c : Dev nD) _ => show (bigSep Finset.univ fun k : Fin 31 => (atPos ER (kcell (c, k)) 0 ∅ 0 : sProp 𝕄)) = posns c from
        cells_split (fun g => atPos ER ((c : Thread nD τ), g) 0 ∅ 0)))
      iexact Hat
    isplitl [Htk]; · iexact Htk
    iexact Hw

omit [∀ e, Nonempty (Elt F e)] in
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_cells m c).trans (bigSep_fupd _ _)).trans (BI.fupd_mono (regroup m))

/-! ## The launch credit -/

theorem owedL_at (l : List (GSem nD τ sig × ℕ)) (g : GSem nD τ sig) : owedL l g () = (l.map fun x => if g = x.1 then x.2 else 0).sum := by
  induction l with
  | nil => rfl
  | cons x l ih =>
    rw [List.map_cons, List.sum_cons, ← ih, Nat.add_comm]
    show (owedL l + tallyAt x.1 () x.2) g () = _
    rw [Pi.add_apply, Finsupp.add_apply, tallyAt_apply]
    simp

abbrev steps : List ℕ := [1, 2, 3, 4, 5, 6, 7]
theorem oall_eq (c : Dev nD) : obl c 0 = steps.map (fun p => (barCell (pe c p), 1)) ++ (steps.map (fun p => (dcell (pe c p) (rSem c), Nx)) ++ steps.map (fun p => (dcell (pe c p) (zSem c), Na))) := rfl

theorem ahead_one (d c : Dev nD) : (steps.map fun p => if c = pe d p then 1 else 0).sum = if d = c then 0 else 1 := by revert d c; decide
theorem ahead (d c : Dev nD) (n : ℕ) : (steps.map fun p => if c = pe d p then n else 0).sum = if d = c then 0 else n := by
  have h : (fun p => if c = pe d p then n else 0) = fun p => n * (if c = pe d p then 1 else 0) := funext fun p => by split <;> simp
  rw [h, List.sum_map_mul_left, ahead_one]; split <;> simp

theorem bar_inj {a b : Dev nD} : barCell a = barCell b ↔ a = b := ⟨fun h => congrArg (fun g : GSem nD τ sig => g.1.1) h, fun h => h ▸ rfl⟩
theorem dcell_inj {a b : Dev nD} {q q' : DmaSem sig} : dcell a q = dcell b q' ↔ a = b ∧ q = q' :=
  ⟨fun h => ⟨congrArg (fun g : GSem nD τ sig => g.1.1) h, SemLoc.dma.inj (congrArg Prod.snd h)⟩, fun h => by rw [h.1, h.2]⟩
theorem bar_ne_dcell {a b : Dev nD} {q : DmaSem sig} : barCell a ≠ dcell b q := fun h => by have := congrArg Prod.snd h; cases this
theorem rSem_inj {a b : Fin 8} : rSem a = rSem b ↔ a = b := by revert a b; decide
theorem zSem_inj {a b : Fin 8} : zSem a = zSem b ↔ a = b := by revert a b; decide
theorem rSem_ne_zSem {a b : Fin 8} : rSem a ≠ zSem b := by revert a b; decide

theorem owed_bar (d c : Dev nD) : owedL (obl d 0) (barCell c) () = if d = c then 0 else 1 := by
  rw [owedL_at, oall_eq, List.map_append, List.map_append, List.sum_append, List.sum_append, List.map_map, List.map_map, List.map_map, ← ahead d c 1]
  simp [Function.comp_def, bar_inj, bar_ne_dcell]
theorem owed_r (d c s : Dev nD) : owedL (obl d 0) (dcell c (rSem s)) () = if s = d then (if d = c then 0 else Nx) else 0 := by
  rw [owedL_at, oall_eq, List.map_append, List.map_append, List.sum_append, List.sum_append, List.map_map, List.map_map, List.map_map, ← ahead d c Nx]
  by_cases h : s = d <;> simp [Function.comp_def, dcell_inj, bar_ne_dcell.symm, rSem_inj, rSem_ne_zSem, h]
theorem owed_z (d c s : Dev nD) : owedL (obl d 0) (dcell c (zSem s)) () = if s = d then (if d = c then 0 else Na) else 0 := by
  rw [owedL_at, oall_eq, List.map_append, List.map_append, List.sum_append, List.sum_append, List.map_map, List.map_map, List.map_map, ← ahead d c Na]
  by_cases h : s = d <;> simp [Function.comp_def, dcell_inj, bar_ne_dcell.symm, zSem_inj, rSem_ne_zSem.symm, h]

abbrev O₀ (c : Dev nD) : CellTallies nD τ sig Unit := owedL (obl c 0)

theorem launch_at {g : GSem nD τ sig} {n : ℕ} (h : ∑ d : Dev nD, owedL (obl d 0) g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launch_bar (c : Dev nD) : tallyOn (barCell c) (launchCredit (Pipeline.owing O₀) 0 (barCell c)) = (tallyAt (barCell c) () 7 : CellTallies nD τ sig Unit) :=
  launch_at (by rw [Finset.sum_congr rfl fun d _ => owed_bar d c]; revert c; decide)
theorem launch_r (c s : Dev nD) (h : s ≠ c) : tallyOn (dcell c (rSem s)) (launchCredit (Pipeline.owing O₀) 0 (dcell c (rSem s))) = (tallyAt (dcell c (rSem s)) () Nx : CellTallies nD τ sig Unit) :=
  launch_at (by rw [Finset.sum_congr rfl fun d _ => owed_r d c s, Finset.sum_ite_eq Finset.univ s, if_pos (Finset.mem_univ _), if_neg h])
theorem launch_z (c s : Dev nD) (h : s ≠ c) : tallyOn (dcell c (zSem s)) (launchCredit (Pipeline.owing O₀) 0 (dcell c (zSem s))) = (tallyAt (dcell c (zSem s)) () Na : CellTallies nD τ sig Unit) :=
  launch_at (by rw [Finset.sum_congr rfl fun d _ => owed_z d c s, Finset.sum_ite_eq Finset.univ s, if_pos (Finset.mem_univ _), if_neg h])

def rLoc : Fin 8 ↪ SemLoc sig := ⟨fun s => .dma (rSem s), fun _ _ h => rSem_inj.1 (SemLoc.dma.inj h)⟩
def zLoc : Fin 8 ↪ SemLoc sig := ⟨fun s => .dma (zSem s), fun _ _ h => zSem_inj.1 (SemLoc.dma.inj h)⟩

omit [FloatOps F] [∀ e, Nonempty (Elt F e)] in
theorem creds (c : Dev nD) : (Pipeline.launchCred O₀ c : sProp 𝕄) ⊢ credits c := by
  unfold Pipeline.launchCred credits
  rw [bigSep_univ_at _ (SemLoc.reg barS), launch_bar]
  refine sep_mono_right ?_
  have hd : Disjoint ((Finset.univ.erase c).map rLoc) ((Finset.univ.erase c).map zLoc) := by
    rw [Finset.disjoint_left]
    rintro x hx hz
    obtain ⟨s, -, rfl⟩ := Finset.mem_map.1 hx
    obtain ⟨s', -, h⟩ := Finset.mem_map.1 hz
    exact rSem_ne_zSem (SemLoc.dma.inj h).symm
  have hs : (Finset.univ.erase c).map rLoc ∪ (Finset.univ.erase c).map zLoc ⊆ Finset.univ.erase (SemLoc.reg barS) := by
    intro x hx
    refine Finset.mem_erase.2 ⟨?_, Finset.mem_univ _⟩
    rintro rfl
    rcases Finset.mem_union.1 hx with h | h <;> obtain ⟨s, -, h⟩ := Finset.mem_map.1 h <;> cases h
  rw [BI.bigSep_sdiff_split hs, BI.bigSep_union hd, BI.bigSep_map, BI.bigSep_map]
  refine sep_elim_left.trans (BI.sep_mono ?_ ?_)
  · exact bigSep_mono fun s h => Entails.of_eq (congrArg cred (launch_r c s (Finset.mem_erase.1 h).1))
  · exact bigSep_mono fun s h => Entails.of_eq (congrArg cred (launch_z c s (Finset.mem_erase.1 h).1))

/-! ## The run -/

omit [∀ e, Nonempty (Elt F e)] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  imodintro
  unfold start G' shared PC
  icases HG with ⟨⟨%K, HI, HR⟩, HP, HT, HS⟩
  isplitl
  · isplitl [HI HR Hlev]
    · iexists K
      isplitl [HI]; · iexact HI
      isplitl [HR]; · iexact HR
      iexact Hlev
    isplitl [HP]; · iexact HP
    isplitl [HT]; · iexact HT
    isplitl [Hc]; · iexact Hc
    isplitl [HS]; · iexact HS
    rw [owns_whole]; iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  simp only [owns_whole]
  iintro ⟨Hs, -, Hr⟩
  isplitl [Hs]; · iexact Hs
  iexact Hr

/-- What is read off at the end: the barrier's counter and the weights. -/
def kept (c : Dev nD) : sProp 𝕄 := iprop(unscopedSems0 c ∗ owns (c : Thread nD τ) wM fullShare (wall m c))

theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scopedRest0_eq]
  unfold kept
  rw [ownSems0_eq, unscopedSems0_eq]
  unfold Φ₁ quiet scratch
  iintro ⟨⟨HB, HF, HW⟩, Hw, Hr⟩
  isplitl [HB Hw]
  · isplitl [HB]; · iexact HB
    iexact Hw
  isplitl [HF HW]
  · isplitl [HF]; · iexact HF
    iexact HW
  simp only [owns_whole]
  iexact Hr

theorem obl_done (c : Dev nD) : ∀ x ∈ obl c 21, x.1.1.2 = .tc ∧ 0 < lv x.1 () := fun x hx => absurd hx List.not_mem_nil

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_obl 0 c _ (obl_lv0 c) (by fin_cases w <;> fin_cases s <;> exact Nat.le_refl 0)
    · exact mayWait_obl 0 c _ (obl_done c) (by fin_cases w <;> fin_cases s <;> exact Nat.le_refl 0)

def finalA (c : Dev nD) (w : Fin cfg0.W) : Buf (Elt F) ((cfg0.win w).arr.view.loc (c : Thread nD τ)) := (dats m ρ 0 c).arrAt w cfg0.N

set_option maxRecDepth 8000 in
/-- The run of the eight devices' programs from any memory: it ends, the staged arrays as the pipeline leaves them, the
    weights as they were, every counter at zero. -/
theorem run_main : θ_run defs (onTc (τ := τ) (main (F := F))) (s₀ m ρ)
    (fun r => (∀ c : Dev nD, (∀ w : Fin cfg0.W, r.2.mem ((cfg0.win w).arr.view.loc (c : Thread nD τ)) = finalA m ρ c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (own_parts _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold kept
      rw [owns_whole]
      iintro ⟨⟨Hu, Hw⟩, -, HSI⟩
      icombine HSI Hw gives %hw
      imod (Pipeline.unscopedSems0_read (X := unscopedSems0 c) (c := c) fupd_intro s') $$ [Hu HSI] with ⟨%hs, HSI⟩
      · isplitl [Hu] <;> iassumption
      imodintro
      isplitr; · ipureintro; exact ⟨hs, Buf.eq_of_forall_mem_univ hw⟩
      iexact HSI)
    (hQ := fun _ h hs => ⟨fun c => ⟨(h c).1, (h c).2.2.2⟩, sem_eq_zero hs fun c => (h c).2.2.1⟩)

end Run

end Cert.Exchange

end
-- ==== Proof.Frames.lean ====
/-
What the run leaves, for the printed program and for its reading at the ideal floats: the arguments as they were, all counters at zero.
-/
module

public import proofs.«01_k».proof.Proof.Launch

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem finalA_x (m : (ℓ : Loc nD τ sig) → Buf (Elt F) ℓ) (ρ : Dev nD → PrngReg) [∀ e, Nonempty (Elt F e)] (c : Dev nD) :
    finalA m ρ c (0 : Fin 2) = m ((c : Thread nD τ).loc main_arg0) :=
  (dats (F := F) m ρ 0 c).arrAt_in (0 : Fin 2) rfl _

theorem frame_ideal (m : (ℓ : Loc nD τ sig) → Buf (Elt F) ℓ) (ρ : Dev nD → PrngReg) [∀ e, Nonempty (Elt F e)] :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).1 (0 : Fin 2)).trans (finalA_x m ρ c), (h.1 c).2⟩, h.2⟩) (run_main m ρ)

end Cert.Exchange

end
-- ==== Proof.Quant.lean ====
/-
The quantiser over the extended reals: the largest entry of an array, the scale, and that clipping at 448 changes nothing.
-/
module

public import Idealize.ShloMosaic.PureOps.Ideal.Laws
public import Idealize.ShloMosaic.Lib.ValueIdx
public import Idealize.ShloMosaic.Lib.IdealHost
public import Idealize.ShloMosaic.Lib.Pipeline.Value

@[expose] public section

noncomputable section

namespace Cert.Exchange

open Idealize.ShloMosaic

/-- The largest entry of an array, -/
def top {ι : Type} [Fintype ι] (f : ι → EReal) : EReal := Finset.univ.sup f

theorem le_top_of {ι : Type} [Fintype ι] (f : ι → EReal) (i : ι) : f i ≤ top f := Finset.le_sup (Finset.mem_univ i)
theorem top_le {ι : Type} [Fintype ι] {f : ι → EReal} {a : EReal} (h : ∀ i, f i ≤ a) : top f ≤ a := Finset.sup_le fun i _ => h i

/-- which re-laying the array leaves. -/
theorem top_of_onto {ι κ : Type} [Fintype ι] [Fintype κ] {f : ι → EReal} {g : κ → EReal} (hf : ∀ i, ∃ k, f i = g k)
    (hg : ∀ k, ∃ i, g k = f i) : top f = top g :=
  le_antisymm (top_le fun i => (hf i).elim fun k e => e.trans_le (le_top_of g k))
    (top_le fun k => (hg k).elim fun i e => e.trans_le (le_top_of f i))

theorem top_shapeCast {s t : Shape} (x : s.Idx → EReal) (h : s.ShapeCasts t) : top (shapeCast t x h) = top x :=
  top_of_onto (fun j => ⟨Shape.reshapeEquiv h j, rfl⟩)
    (fun i => ⟨(Shape.reshapeEquiv h).symm i, congrArg x (Equiv.apply_symm_apply _ i).symm⟩)

theorem bits_bot : Ideal.ofBits .f32 0xFF800000#32 = ⊥ := by simp [Ideal.ofBits, Ideal.ieee]
theorem bits_448 : Ideal.ofBits .f32 0x43E00000#32 = ((448 : ℝ) : EReal) := by
  simp [Ideal.ofBits, Ideal.ieee, -EReal.coe_mul]; norm_num
theorem bits_neg_448 : Ideal.ofBits .f32 0xC3E00000#32 = ((-448 : ℝ) : EReal) := by
  simp [Ideal.ofBits, Ideal.ieee, -EReal.coe_mul, -EReal.coe_neg]; norm_num

/-- A maximum over every axis, from minus infinity, is the largest entry. -/
theorem max_all {s t : Shape} {axes : List (Fin s.rank)} (src : FVec Ideal s .f32) (h : s.Reduces axes t) (ht : ∀ b, t.size b = 1)
    (hφ : FKind.Formats .f32) (hacc : (0xFF800000#32 : BitVec (FTy.f32).bits) = FKind.maximumf.neutral .f32 hφ) (j : t.Idx) :
    multiReduction .maximumf axes t src 0xFF800000#32 h hφ hacc j = top src := by
  rw [multiReduction_maximumf_eq_fold, Finset.filter_true_of_mem fun i _ => funext fun b => Fin.ext (by
    have h1 := (h.drop i b).isLt; have h2 := (j b).isLt; have h3 := ht b; omega)]
  show Finset.univ.fold max (Ideal.ofBits .f32 0xFF800000#32) src = _
  rw [bits_bot]; rfl

/-- The value an entry is given: divided by the scale and multiplied back. -/
def quant (y a : EReal) : EReal := Ideal.div y (Ideal.div a ((448 : ℝ) : EReal)) * Ideal.div a ((448 : ℝ) : EReal)

/-- The clip at 448 changes nothing: an entry is at most 448 scales, or the scale is zero or infinite. -/
theorem quant_clip {y a : EReal} (h0 : 0 ≤ y) (h1 : y ≤ a) :
    min ((448 : ℝ) : EReal) (max ((-448 : ℝ) : EReal) (Ideal.div y (Ideal.div a ((448 : ℝ) : EReal)))) * Ideal.div a ((448 : ℝ) : EReal) = quant y a := by
  unfold quant
  have hs : Ideal.div a ((448 : ℝ) : EReal) = a * ((1 / 448 : ℝ) : EReal) := Ideal.div_coe (by norm_num) a
  induction a using EReal.rec with
  | bot => exact absurd (h0.trans h1) (by simp)
  | top =>
    have ht : (⊤ : EReal) * ((1 / 448 : ℝ) : EReal) = ⊤ := EReal.top_mul_coe_of_pos (by norm_num)
    rw [hs, ht]
    have : Ideal.div y ⊤ = 0 := by unfold Ideal.div; rw [if_neg (by simp)]; simp
    rw [this, max_eq_right (by rw [← EReal.coe_zero]; exact EReal.coe_le_coe_iff.mpr (by norm_num)),
      min_eq_right (by rw [← EReal.coe_zero]; exact EReal.coe_le_coe_iff.mpr (by norm_num))]
  | coe a =>
    rw [hs, ← EReal.coe_mul]
    have ha : 0 ≤ a := EReal.coe_le_coe_iff.mp (by simpa using h0.trans h1)
    rcases ha.eq_or_lt with rfl | ha
    · simp
    · have hy : ∃ r : ℝ, y = (r : EReal) := by
        induction y using EReal.rec with
        | bot => exact absurd h0 (by simp)
        | top => exact absurd h1 (by simp)
        | coe r => exact ⟨r, rfl⟩
      obtain ⟨r, rfl⟩ := hy
      have hr0 : 0 ≤ r := EReal.coe_le_coe_iff.mp (by simpa using h0)
      have hr1 : r ≤ a := EReal.coe_le_coe_iff.mp h1
      rw [Ideal.div_coe (by positivity), ← EReal.coe_mul]
      have h448 : r * (1 / (a * (1 / 448))) ≤ 448 := by
        rw [mul_one_div, div_le_iff₀ (by positivity)]; linarith
      have hneg : (-448 : ℝ) ≤ r * (1 / (a * (1 / 448))) := le_trans (show (-448 : ℝ) ≤ 0 by norm_num) (by positivity)
      rw [max_eq_right (EReal.coe_le_coe_iff.mpr hneg), min_eq_right (EReal.coe_le_coe_iff.mpr h448)]

end Cert.Exchange

end
-- ==== Proof.RefValue.lean ====
/-
What the reference computes, over the extended reals: the whole product, rectified, quantised with the scale of its largest entry.
-/
module

public import proofs.«01_k».proof.Proof.Quant
public import proofs.«01_k».proof.Proof.Gen.ReferenceIdeal.Value
public import Idealize.ShloMosaic.Lib.StackMember

@[expose] public section

noncomputable section

namespace Cert.Exchange

open Idealize.ShloMosaic Idealize.ShloMosaic.TcCoe Idealize.ShloMosaic.ValueIdx
open Idealize.SL Idealize.SL.Sem

/-- An entry of the product, rectified, -/
def prod (X : (⟨2, ![4096, 4096]⟩ : Shape).Idx → EReal) (W : (⟨2, ![4096, 8192]⟩ : Shape).Idx → EReal) (r : Fin 4096) (l : Fin 8192) : EReal :=
  max (∑ k : Fin 4096, X (ix2 r k) * W (ix2 k l)) 0
/-- the array of them, -/
def prods (X : (⟨2, ![4096, 4096]⟩ : Shape).Idx → EReal) (W : (⟨2, ![4096, 8192]⟩ : Shape).Idx → EReal) : (⟨2, ![4096, 8192]⟩ : Shape).Idx → EReal :=
  fun i => prod X W (i 0) (i 1)
/-- and the result. -/
def result (X : (⟨2, ![4096, 4096]⟩ : Shape).Idx → EReal) (W : (⟨2, ![4096, 8192]⟩ : Shape).Idx → EReal) : (⟨2, ![4096, 8192]⟩ : Shape).Idx → EReal :=
  fun i => quant (prods X W i) (top (prods X W))

theorem prods_nonneg (X W) (i) : 0 ≤ prods X W i := le_max_right _ _

section Ref

open Cert.ReferenceIdeal Cert.ReferenceIdeal.Gen

/-- The quantiser on an array without a negative entry. -/
theorem ref_pay (v : Vec Ideal S4096x8192 .f32) (h0 : ∀ i, (0 : EReal) ≤ v i) : k0_pay1 (F := Ideal) v = fun i => quant (v i) (top v) := by
  funext i
  have hv : shapeCast S4096x8192 v shapeCasts_S4096x8192_S4096x8192 = v := Idealize.ShloMosaic.shapeCast_self v _
  have habs : (absf (F := Ideal) (φ := .f32) v : S4096x8192.Idx → EReal) = v := funext fun j => max_eq_left (by
    have := h0 j
    exact (EReal.neg_le_neg_iff.mpr this).trans (by simpa using this))
  unfold k0_pay1
  dsimp only
  rw [hv, habs]
  show min (Ideal.ofBits .f32 0x43E00000#32) (max (Ideal.ofBits .f32 0xC3E00000#32) (Ideal.div (v i) (Ideal.div _ (Ideal.ofBits .f32 0x43E00000#32)))) * Ideal.div _ (Ideal.ofBits .f32 0x43E00000#32) = _
  have ht : top (shapeCast S1x4096x8192 v shapeCasts_S4096x8192_S1x4096x8192) = top v := top_shapeCast v _
  have hA := (max_all (shapeCast S1x4096x8192 v shapeCasts_S4096x8192_S1x4096x8192) reduces_S1x4096x8192_S1 (by decide) (.inl rfl) rfl
    (Shape.reshapeEquiv shapeCasts_S1_S1x1x1 fun a => ⟨![0, 0, 0] a, inpos_S1x1x1_p0_0_0 a⟩)).trans ht
  refine (congrArg (fun t => min (Ideal.ofBits .f32 0x43E00000#32) (max (Ideal.ofBits .f32 0xC3E00000#32)
    (Ideal.div (v i) (Ideal.div t (Ideal.ofBits .f32 0x43E00000#32)))) * Ideal.div t (Ideal.ofBits .f32 0x43E00000#32)) hA).trans ?_
  rw [bits_448, bits_neg_448]
  exact quant_clip (h0 i) (le_top_of _ _)

variable (m : (ℓ : Loc nD τ sig) → Buf (Elt Ideal) ℓ)

/-- What the host leaves for the quantiser: the product, rectified. -/
theorem V_v3 (c : Dev nD) : V (F := Ideal) m c main_v3
    = prods (m ((c : Thread nD τ).loc main_arg0)) (m ((c : Thread nD τ).loc main_arg1)) := by
  unfold_abbrev_sides
  after_results
  funext i
  obtain ⟨r, l, rfl⟩ : ∃ r l, i = ix2 r l := ⟨_, _, eq_ix2 i⟩
  show max (Host.dotGeneral (F := Ideal) dot_S4096x4096_S4096x8192_S4096x8192_1_0_0_1_n_n none _ _ (ix2 r l)) (Ideal.ofBits .f32 0x00000000#32) = _
  rw [Ideal.ofBits_zero_f32]
  exact congrArg (max · 0) (StackMember.dotGeneral_plain_apply none _ _ r l)

/-- The quantiser's operand is that array, whole. -/
theorem ref_blk (c : Dev nD) (t : Fin cfg0.N) : iblk (F := Ideal) m c 0 t = V (F := Ideal) m c main_v3 := by
  have hz : (fun a => (win0_0.index t) a * main_v3.ty.shape.size a) = fun _ => 0 :=
    funext fun a => by revert t a; decide
  exact Memref.read_access_unit_zero (Elt Ideal) main_v3 hz (fun a => by revert t a; decide) _

/-- The result array after the run. -/
theorem ref_final (c : Dev nD) : (dats (F := Ideal) m 0 c).arrAt 1 cfg0.N
    = result (m ((c : Thread nD τ).loc main_arg0)) (m ((c : Thread nD τ).loc main_arg1)) := by
  have hz : (fun a => (win0_1.index (0 : Fin 1)) a * main_v4.ty.shape.size a) = fun _ => 0 :=
    funext fun a => by revert a; decide
  have hr := fun f => Memref.read_access_unit_zero (Elt Ideal) main_v4 hz (fun a => by revert a; decide) f
  have h := Value.blocks1 (F := Ideal) m c (0 : Fin 1) (by decide)
  have h1 := (hr _).symm.trans (h.trans (Value.flushed1 (F := Ideal) m c (0 : Fin 1)))
  refine h1.trans ?_
  show out0_1 (iblk m c 0 (0 : Fin 1)) = _
  unfold out0_1
  rw [View.canon_unit_zero (by decide), View.ld_unit_zero (by decide)]
  exact (congrArg (k0_pay1 (F := Ideal)) ((ref_blk m c (0 : Fin 1)).trans (V_v3 m c))).trans (ref_pay _ (prods_nonneg _ _))

end Ref

end Cert.Exchange

end
-- ==== Proof.KerValue.lean ====
/-
What each device computes, over the extended reals: its eight block products are its rows of the whole product, the largest
of the eight maxima is the largest entry of the whole, and its block of the result is those rows of the reference's.
-/
module

public import proofs.«01_k».proof.Proof.Frames
public import proofs.«01_k».proof.Proof.RefValue
public import Idealize.ShloMosaic.Lib.MatmulPlain
public import Idealize.ShloMosaic.Lib.Layout

@[expose] public section

noncomputable section

namespace Cert.Exchange

open Cert.KernelIdeal Cert.KernelIdeal.Gen
open Idealize.ShloMosaic Idealize.ShloMosaic.TcCoe Idealize.ShloMosaic.ValueIdx

/-! ## A sum over the whole contraction, block by block in the order a device takes them -/

theorem sum_blocks (f : Fin 4096 → EReal) :
    ∑ k : Fin 4096, f k = ∑ s : Fin 8, ∑ k : Fin 512, f ⟨s.val * 512 + k.val, by omega⟩ := by
  rw [← Equiv.sum_comp (finProdFinEquiv (m := 8) (n := 512)) f, Fintype.sum_prod_type]
  refine Finset.sum_congr rfl fun s _ => Finset.sum_congr rfl fun k _ => congrArg f (Fin.ext ?_)
  show k.val + 512 * s.val = s.val * 512 + k.val
  omega

theorem og_inj (c : Dev nD) : Function.Injective fun n : Fin 8 => og c n.val := by revert c; decide

/-- The devices by their distance behind `c`. -/
theorem sum_og (c : Dev nD) (f : Fin 8 → EReal) : ∑ n : Fin 8, f (og c n.val) = ∑ s : Fin 8, f s :=
  Function.Bijective.sum_comp (Finite.injective_iff_bijective.mp (og_inj c)) f

variable (m : (ℓ : Loc nD τ sig) → Buf (Elt Ideal) ℓ)
variable (X : (⟨2, ![4096, 4096]⟩ : Shape).Idx → EReal) (W : (⟨2, ![4096, 8192]⟩ : Shape).Idx → EReal)

/-- What the two programs' arguments have to do with each other. -/
def Agree : Prop :=
  (∀ c : Dev nD, m (c.tc.loc main_arg0) = Layout.block ⟨2, ![4096, 512]⟩ ⟨2, ![4096, 4096]⟩ 1 8 c X)
    ∧ ∀ c : Dev nD, m (c.tc.loc main_arg1) = W

/-- A device's staged `x` is its argument, whole. -/
theorem xstg_eq (c : Dev nD) : xstg m c = m (c.tc.loc main_arg0) := by
  have hz : (fun a => (win0_0.index (0 : Fin 1)) a * main_arg0.ty.shape.size a) = fun _ => 0 :=
    funext fun a => by revert a; decide
  exact Memref.read_access_unit_zero (Elt Ideal) main_arg0 hz (fun a => by revert a; decide) _

/-- Entry `(r, l)` of row block `c`, half `h`. -/
def rowOf (c : Dev nD) (r : Fin 512) : Fin 4096 := ⟨c.val * 512 + r.val, by have := c.isLt; have : nD = 8 := rfl; omega⟩
def colOf (h : Fin 2) (l : Fin 4096) : Fin 8192 := ⟨h.val * 4096 + l.val, by omega⟩

theorem xb_apply (H : Agree m X W) (s r : Dev nD) (i k : Fin 512) :
    xb m s r (ix2 i k) = X (ix2 (rowOf r i) (rowOf s k)) := by
  unfold xb
  rw [xstg_eq, H.1 s, Layout.block_apply]
  refine congrArg X (funext fun a => Fin.ext ?_)
  match a with
  | ⟨0, _⟩ => simp [Layout.Tiles.idx_val, Rect.emb_apply, rowOf]
  | ⟨1, _⟩ => simp [Layout.Tiles.idx_val, Rect.emb_apply, rowOf]

theorem wb_apply (H : Agree m X W) (c r : Dev nD) (h : Fin 2) (k : Fin 512) (l : Fin 4096) :
    wb m c r h (ix2 k l) = W (ix2 (rowOf r k) (colOf h l)) := by
  unfold wb wall
  rw [H.2 c]
  refine congrArg W (funext fun a => Fin.ext ?_)
  match a with
  | ⟨0, _⟩ => simp [Rect.emb_apply, rowOf]
  | ⟨1, _⟩ => simp [Rect.emb_apply, colOf]

theorem mm_apply (A : Vec Ideal S512x512 .bf16) (B : Vec Ideal S512x4096 .f32) (i : Fin 512) (l : Fin 4096) :
    mm A B (ix2 i l) = ∑ k : Fin 512, A (ix2 i k) * B (ix2 k l) := by
  refine (Ideal.matmul_plain_apply none A B (constant S512x4096 .f32 0x00000000#32) i l).trans ?_
  show Ideal.ofBits .f32 0x00000000#32 + _ = _
  rw [Ideal.ofBits_zero_f32, zero_add]

/-- One device's share of a product's entry. -/
def share (c s : Dev nD) (h : Fin 2) (i : Fin 512) (l : Fin 4096) : EReal :=
  ∑ k : Fin 512, X (ix2 (rowOf c i) (rowOf s k)) * W (ix2 (rowOf s k) (colOf h l))

theorem mm_share (H : Agree m X W) (c s : Dev nD) (h : Fin 2) (i : Fin 512) (l : Fin 4096) :
    mm (xb m s c) (wb m c s h) (ix2 i l) = share X W c s h i l := by
  rw [mm_apply]
  exact Finset.sum_congr rfl fun k _ => by rw [xb_apply m X W H, wb_apply m X W H]

theorem acc_apply (H : Agree m X W) (c : Dev nD) (h : Fin 2) (i : Fin 512) (l : Fin 4096) (n : ℕ) :
    acc m c h n (ix2 i l) = ∑ j ∈ Finset.range (n + 1), share X W c (og c j) h i l := by
  induction n with
  | zero =>
    rw [Finset.sum_range_one]
    show mm (xb m c c) (wb m c (og c 0) h) (ix2 i l) = _
    rw [og_zero, mm_share m X W H]
  | succ n ih =>
    rw [Finset.sum_range_succ, ← ih, ← mm_share m X W H]
    rfl

/-- After the eighth product: the entry of the whole product. -/
theorem acc_all (H : Agree m X W) (c : Dev nD) (h : Fin 2) (i : Fin 512) (l : Fin 4096) :
    acc m c h 7 (ix2 i l) = ∑ k : Fin 4096, X (ix2 (rowOf c i) k) * W (ix2 k (colOf h l)) := by
  rw [acc_apply m X W H, Finset.sum_range, sum_blocks]
  exact sum_og c fun s => share X W c s h i l

/-! ## The rectified block, the maxima, the result -/

theorem pay25_apply (v : Vec Ideal S512x8192 .f32) (i : S512x8192.Idx) : k0_pay25 (F := Ideal) v i = max (v i) 0 := by
  unfold k0_pay25
  rw [Idealize.ShloMosaic.shapeCast_self]
  show max (v i) (Ideal.ofBits .f32 0x00000000#32) = _
  rw [Ideal.ofBits_zero_f32]

theorem ry_half (H : Agree m X W) (c : Dev nD) (h : Fin 2) (i : Fin 512) (l : Fin 4096) :
    ry m c ((oR h).emb (ix2 i l)) = prod X W (rowOf c i) (colOf h l) := by
  refine (pay25_apply (joinH (acc m c 0 7) (acc m c 1 7)) _).trans ?_
  unfold prod
  rw [← acc_all m X W H]
  match h with
  | 0 => exact congrArg (max · 0) (congrFun (joinH_zero (acc m c 0 7) (acc m c 1 7)) (ix2 i l))
  | 1 => exact congrArg (max · 0) (congrFun (joinH_one (acc m c 0 7) (acc m c 1 7)) (ix2 i l))

theorem spread_apply (x : EReal) (j : S1x128.Idx) : shapeCast S1x128 (broadcast S1x128 x) shapeCasts_S1x128_S1x128 j = x := rfl

theorem pay26_apply (v : Vec Ideal S512x8192 .f32) (j : S1x128.Idx) : k0_pay26 (F := Ideal) v j = top v := by
  have hA := (max_all (shapeCast S1x512x8192 (shapeCast S512x8192 v shapeCasts_S512x8192_S512x8192) shapeCasts_S512x8192_S1x512x8192)
    reduces_S1x512x8192_S1 (by decide) (.inl rfl) rfl
    (Shape.reshapeEquiv shapeCasts_S1_S1x1x1 fun a => ⟨![0, 0, 0] a, inpos_S1x1x1_p0_0_0 a⟩)).trans
    ((top_shapeCast _ _).trans (top_shapeCast _ _))
  unfold k0_pay26
  exact (spread_apply _ j).trans hA

theorem amall_apply (c : Fin 8) (k : Fin 128) : amall m (ix2 c k) = top (ry m c) := pay26_apply (ry m c) _

/-- The scale: the largest entry a device has received, over 448. -/
theorem pay27_eq (v : Vec Ideal S8x128 .f32) : k0_pay27 (F := Ideal) v = Ideal.div (top v) ((448 : ℝ) : EReal) := by
  have hA := (max_all (shapeCast S1x8x128 v shapeCasts_S8x128_S1x8x128) reduces_S1x8x128_S1 (by decide) (.inl rfl) rfl
    (Shape.reshapeEquiv shapeCasts_S1_S1x1x1 fun a => ⟨![0, 0, 0] a, inpos_S1x1x1_p0_0_0 a⟩)).trans (top_shapeCast _ _)
  unfold k0_pay27
  exact (congrArg (fun t => Ideal.div t (Ideal.ofBits .f32 0x43E00000#32)) hA).trans (by rw [bits_448])

theorem row_cases (r : Fin 4096) : ∃ (c : Dev nD) (i : Fin 512), r = rowOf c i :=
  ⟨⟨r.val / 512, by have := r.isLt; show r.val / 512 < 8; omega⟩, ⟨r.val % 512, Nat.mod_lt _ (by decide)⟩, Fin.ext (by
    show r.val = r.val / 512 * 512 + r.val % 512; omega)⟩
theorem col_cases (l : Fin 8192) : ∃ (h : Fin 2) (k : Fin 4096), l = colOf h k :=
  ⟨⟨l.val / 4096, by have := l.isLt; omega⟩, ⟨l.val % 4096, Nat.mod_lt _ (by decide)⟩, Fin.ext (by
    show l.val = l.val / 4096 * 4096 + l.val % 4096; omega)⟩

theorem emb_col (h : Fin 2) (i : Fin 512) (l : Fin 4096) : (oR h).emb (ix2 i l) = ix2 i (colOf h l) :=
  funext fun a => Fin.ext (match a with
    | ⟨0, _⟩ => by simp [Rect.emb_apply]
    | ⟨1, _⟩ => by simp [Rect.emb_apply, colOf])

theorem ry_apply (H : Agree m X W) (c : Dev nD) (i : Fin 512) (l : Fin 8192) : ry m c (ix2 i l) = prod X W (rowOf c i) l := by
  obtain ⟨h, k, rfl⟩ := col_cases l
  rw [← emb_col, ry_half m X W H]

/-- The largest of the maxima is the largest entry of the whole product. -/
theorem top_amall (H : Agree m X W) : top (amall m) = top (prods X W) := by
  refine le_antisymm (top_le fun i => ?_) (top_le fun i => ?_)
  · obtain ⟨c, k, rfl⟩ : ∃ (c : Fin 8) (k : Fin 128), i = ix2 c k := ⟨i 0, i 1, eq_ix2 i⟩
    rw [amall_apply]
    refine top_le fun j => ?_
    obtain ⟨a, b, rfl⟩ : ∃ (a : Fin 512) (b : Fin 8192), j = ix2 a b := ⟨j 0, j 1, eq_ix2 j⟩
    exact (ry_apply m X W H c a b).trans_le (le_top_of (prods X W) (ix2 (rowOf c a) b))
  · obtain ⟨r, l, rfl⟩ : ∃ (r : Fin 4096) (l : Fin 8192), i = ix2 r l := ⟨i 0, i 1, eq_ix2 i⟩
    obtain ⟨c, a, rfl⟩ := row_cases r
    calc prods X W (ix2 (rowOf c a) l) = ry m c (ix2 a l) := (ry_apply m X W H c a l).symm
      _ ≤ top (ry m c) := le_top_of (ry m c) _
      _ = amall m (ix2 c (0 : Fin 128)) := (amall_apply m c 0).symm
      _ ≤ top (amall m) := le_top_of (amall m) _

theorem out_half (H : Agree m X W) (c : Dev nD) (h : Fin 2) (i : Fin 512) (l : Fin 4096) :
    outAt m c ((oR h).emb (ix2 i l)) = quant (prod X W (rowOf c i) (colOf h l)) (top (prods X W)) := by
  rw [← ry_half m X W H, ← top_amall m X W H]
  unfold outAt quant
  match h with
  | 0 =>
    refine (congrFun (joinH_zero _ _) (ix2 i l)).trans ?_
    unfold k0_pay28
    rw [Idealize.ShloMosaic.shapeCast_self, pay27_eq]
    rfl
  | 1 =>
    refine (congrFun (joinH_one _ _) (ix2 i l)).trans ?_
    unfold k0_pay31 k0_pay29 k0_pay30
    rw [Idealize.ShloMosaic.shapeCast_self, pay27_eq]
    rfl

/-- A device's block of the result is its rows of the reference's. -/
theorem out_eq (H : Agree m X W) (c : Dev nD) :
    outAt m c = Layout.block ⟨2, ![512, 8192]⟩ ⟨2, ![4096, 8192]⟩ 0 8 c (result X W) := by
  funext j
  obtain ⟨i, l, rfl⟩ : ∃ (i : Fin 512) (l : Fin 8192), j = ix2 i l := ⟨j 0, j 1, eq_ix2 j⟩
  rw [Layout.block_apply]
  obtain ⟨h, k, rfl⟩ := col_cases l
  rw [← emb_col, out_half m X W H]
  unfold result prods
  refine congrArg (quant · _) (congrArg₂ (prod X W) (Fin.ext ?_) (Fin.ext ?_))
  · simp [Layout.Tiles.idx_val, emb_col, rowOf]
  · simp [Layout.Tiles.idx_val, emb_col, colOf]

/-- The result array's one block, the whole array, is what the body left. -/
theorem finalA_o (ρ : Dev nD → PrngReg) (c : Dev nD) : finalA m ρ c (1 : Fin 2) = outAt m c := by
  have hz : (fun a => (win0_1.index (0 : Fin 1)) a * main_v1.ty.shape.size a) = fun _ => 0 :=
    funext fun a => by revert a; decide
  refine (Memref.read_access_unit_zero (Elt Ideal) main_v1 hz (fun a => by revert a; decide) _).symm.trans ?_
  show (win0_1.blk (0 : Fin 1)).view.read (Elt Ideal) (finalA m ρ c (1 : Fin 2)) = outAt m c
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.KerValue
public import Idealize.ShloMosaic.Adequacy
public import Idealize.ShloMosaic.Init

@[expose] public section

noncomputable section

namespace Cert.Proof

open Idealize.ShloMosaic Idealize.SL.Sem Cert.Kernel

/-- The printed program and its reading at the ideal floats are one text: so are their body tables. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  rcases l with ⟨_ | l, h⟩
  · rcases a with ⟨t, s⟩; rfl
  · exact absurd h (by show ¬ l + 1 < 1; omega)
theorem defs_eq : Cert.Kernel.defs (F := Bits) = Cert.KernelIdeal.defs (F := Bits) :=
  congrArg (Pipeline.defs Cert.KernelIdeal.pcfgs) bodies_eq

theorem frame_kernel : Cert.quiescent_Kernel := fun m ρ _ => by
  rw [defs_eq]
  exact Cert.Exchange.frame_ideal (F := Bits) m ρ

theorem frame_kernel_ideal : Cert.quiescent_KernelIdeal := fun m ρ _ => Cert.Exchange.frame_ideal (F := Ideal) m ρ

theorem frame_reference : Cert.quiescent_ReferenceIdeal := fun m ρ _ => Cert.ReferenceIdeal.Gen.frame m ρ

/-- Both programs leave the reference's result: the kernel's devices a block of its rows each. -/
theorem same_result : Cert.algebraic_KernelIdeal_ReferenceIdeal := by
  intro m ρ m' ρ' _ hagree
  have H : Cert.Exchange.Agree m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    ⟨fun c => (hagree c).1, fun c => (hagree c).2⟩
  refine ⟨Cert.Exchange.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨((h.1 c).1 (1 : Fin 2)).trans ((Cert.Exchange.finalA_o m ρ c).trans (Cert.Exchange.out_eq m _ _ H c)),
        ((h.1 c).1 (0 : Fin 2)).trans (Cert.Exchange.finalA_x m ρ c), (h.1 c).2⟩)
      (Cert.Exchange.run_main (F := Ideal) m ρ)
  · exact (θ_run Cert.ReferenceIdeal.defs _ _).mono
      (fun _ h => ⟨(h 0).1.trans (Cert.Exchange.ref_final m' 0), (h 0).2.1, (h 0).2.2⟩)
      (Cert.ReferenceIdeal.Value.run_blocks (F := Ideal) m' ρ')

theorem claim : Cert.Claim := ⟨Cert.Kernel.Gen.facts, Cert.KernelIdeal.Gen.facts, Cert.ReferenceIdeal.Gen.facts,
  frame_kernel, frame_kernel_ideal, frame_reference, trivial, same_result⟩

end Cert.Proof

end
